-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x40000000#32 ((33554431 / 16777216 : ℝ) : EReal)
  ∧ IdealRules.named_const.Statement Cert.KernelIdeal.κ "off" .f32 0xC0400000#32 ((-25165823 / 8388608 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v597) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2048x34 : Shape := ⟨2, ![2048, 34]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S2048 32) (arg1 : IVec S_ 32) : IVec S2048 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S2048 32 := broadcastInDim S2048 ![] bcast_S_S2048 v2
  let v4 : IVec S2048 32 := Host.remsi arg0 v3
  let c_1 : IVec S_ 32 := constantI S_ 32 0#32
  let v5 : IVec S2048 32 := broadcastInDim S2048 ![] bcast_S_S2048 c_1
  let v6 : IVec S2048 1 := cmpi .ne v4 v5
  let c_2 : IVec S_ 32 := constantI S_ 32 0#32
  let v7 : IVec S2048 32 := broadcastInDim S2048 ![] bcast_S_S2048 c_2
  let v8 : IVec S2048 1 := cmpi .slt v4 v7
  let c_3 : IVec S_ 32 := constantI S_ 32 0#32
  let v9 : IVec S_ 1 := cmpi .slt v2 c_3
  let v10 : IVec S2048 1 := broadcastInDim S2048 ![] bcast_S_S2048 v9
  let v11 : IVec S2048 1 := cmpi .ne v8 v10
  let v12 : IVec S2048 1 := andi v11 v6
  let v13 : IVec S2048 32 := broadcastInDim S2048 ![] bcast_S_S2048 v2
  let v14 : IVec S2048 32 := addi v4 v13
  let v15 : IVec S2048 32 := select v12 v14 v4
  v15

def fn {F : FTy → Type} [FloatOps F] (main_arg0 : FVec F S2048x34 .f32) (main_arg1 : IVec S2048 32) (main_arg2 : FVec F S_ .f32) : IVec S_ 1 :=
  let main_v0 : IVec S2048 32 := iotaInDim S2048 32 0
  let main_c : IVec S_ 32 := constantI S_ 32 128#32
  let main_v1 : IVec S2048 32 := fn_remainder (F := F) main_v0 main_c
  let main_v2 : IVec S2048 1 := cmpi .eq main_arg1 main_v1
  let main_c_0 : IVec S_ 1 := constantI S_ 1 1#1
  let main_v3 : IVec S_ 1 := (fun x v => Host.reduce IntOp.andi x v reducesTo_S2048_S_d0 h_S_) main_v2 main_c_0
  let main_cst : FVec F S_ .f32 := constant S_ .f32 0xFF800000#32
  let main_v4 : IVec S_ 1 := cmpf .ogt main_arg2 main_cst
  let main_v5 : IVec S_ 1 := andi main_v3 main_v4
  main_v5
-- ==== Kernel.lean ====
abbrev S2048x34 : Shape := ⟨2, ![2048, 34]⟩
abbrev S2048 : Shape := ⟨1, ![2048]⟩
abbrev S_ : Shape := ⟨0, ![]⟩
abbrev S1x128 : Shape := ⟨2, ![1, 128]⟩
abbrev S16x128x34 : Shape := ⟨3, ![16, 128, 34]⟩
abbrev S16x128x32 : Shape := ⟨3, ![16, 128, 32]⟩
abbrev S16x128x1 : Shape := ⟨3, ![16, 128, 1]⟩
abbrev S8x128x34 : Shape := ⟨3, ![8, 128, 34]⟩
abbrev S1x8x128x34 : Shape := ⟨4, ![1, 8, 128, 34]⟩
abbrev S2x8x128x34 : Shape := ⟨4, ![2, 8, 128, 34]⟩
abbrev S2x8x128x32 : Shape := ⟨4, ![2, 8, 128, 32]⟩
abbrev S2x8x32x128 : Shape := ⟨4, ![2, 8, 32, 128]⟩
abbrev S2x8x128x1 : Shape := ⟨4, ![2, 8, 128, 1]⟩
abbrev S2x8x128 : Shape := ⟨3, ![2, 8, 128]⟩
abbrev S2048x512 : Shape := ⟨2, ![2048, 512]⟩
abbrev S1x128x32 : Shape := ⟨3, ![1, 128, 32]⟩
abbrev S1x128x1 : Shape := ⟨3, ![1, 128, 1]⟩
abbrev S1x8x32x128 : Shape := ⟨4, ![1, 8, 32, 128]⟩
abbrev S1x8x128 : Shape := ⟨3, ![1, 8, 128]⟩
abbrev S128x512 : Shape := ⟨2, ![128, 512]⟩
abbrev S8x128 : Shape := ⟨2, ![8, 128]⟩
abbrev S128 : Shape := ⟨1, ![128]⟩
abbrev S32x128 : Shape := ⟨2, ![32, 128]⟩
abbrev S1x1x32x128 : Shape := ⟨4, ![1, 1, 32, 128]⟩
abbrev S8x8x128 : Shape := ⟨3, ![8, 8, 128]⟩
abbrev S128x384 : Shape := ⟨2, ![128, 384]⟩
abbrev S1x8x32 : Shape := ⟨3, ![1, 8, 32]⟩
abbrev S8x32 : Shape := ⟨2, ![8, 32]⟩
abbrev S1x8x1 : Shape := ⟨3, ![1, 8, 1]⟩
abbrev S8x1 : Shape := ⟨2, ![8, 1]⟩
abbrev S8 : Shape := ⟨1, ![8]⟩

abbrev nBuf : Space → Nat
  | .hbm => 18
  | .vmem => 11
  | .smem => 0
  | _ => 0

abbrev bufTy : (tb : Table) → Fin (tcTables nBuf tb) → BufTy
  | .hbm, ⟨0, _⟩ => ⟨S2048x34, .f32⟩
  | .hbm, ⟨1, _⟩ => ⟨S2048, .i32⟩
  | .hbm, ⟨2, _⟩ => ⟨S_, .f32⟩
  | .hbm, ⟨3, _⟩ => ⟨S_, .f32⟩
  | .hbm, ⟨4, _⟩ => ⟨S1x128, .f32⟩
  | .hbm, ⟨5, _⟩ => ⟨S16x128x34, .f32⟩
  | .hbm, ⟨6, _⟩ => ⟨S16x128x32, .f32⟩
  | .hbm, ⟨7, _⟩ => ⟨S16x128x1, .f32⟩
  | .hbm, ⟨8, _⟩ => ⟨S8x128x34, .f32⟩
  | .hbm, ⟨9, _⟩ => ⟨S8x128x34, .f32⟩
  | .hbm, ⟨10, _⟩ => ⟨S1x8x128x34, .f32⟩
  | .hbm, ⟨11, _⟩ => ⟨S1x8x128x34, .f32⟩
  | .hbm, ⟨12, _⟩ => ⟨S2x8x128x34, .f32⟩
  | .hbm, ⟨13, _⟩ => ⟨S2x8x128x32, .f32⟩
  | .hbm, ⟨14, _⟩ => ⟨S2x8x32x128, .f32⟩
  | .hbm, ⟨15, _⟩ => ⟨S2x8x128x1, .f32⟩
  | .hbm, ⟨16, _⟩ => ⟨S2x8x128, .f32⟩
  | .hbm, ⟨17, _⟩ => ⟨S2048x512, .f32⟩
  | .local _ .vmem, ⟨0, _⟩ => ⟨S1x128, .f32⟩
  | .local _ .vmem, ⟨1, _⟩ => ⟨S1x128x32, .f32⟩
  | .local _ .vmem, ⟨2, _⟩ => ⟨S1x128x32, .f32⟩
  | .local _ .vmem, ⟨3, _⟩ => ⟨S1x128x1, .f32⟩
  | .local _ .vmem, ⟨4, _⟩ => ⟨S1x128x1, .f32⟩
  | .local _ .vmem, ⟨5, _⟩ => ⟨S1x8x32x128, .f32⟩
  | .local _ .vmem, ⟨6, _⟩ => ⟨S1x8x32x128, .f32⟩
  | .local _ .vmem, ⟨7, _⟩ => ⟨S1x8x128, .f32⟩
  | .local _ .vmem, ⟨8, _⟩ => ⟨S1x8x128, .f32⟩
  | .local _ .vmem, ⟨9, _⟩ => ⟨S128x512, .f32⟩
  | .local _ .vmem, ⟨10, _⟩ => ⟨S128x512, .f32⟩
  | _, _ => ⟨S2048x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_48 : BitVec 32 := 0#32
  let c16_i32 : BitVec 32 := 16#32
  let v115 : BitVec 32 := Scalar.addi c0_i32_48 c16_i32
  let c1_i32_49 : BitVec 32 := 1#32
  ⟨c0_i32_48, v115, c1_i32_49⟩
def k0_off1 (k0_t1 : Fin k0_t1_loop.trips) : Fin 3 → Nat :=
  let c0_52 : Index := 0#32
  let c0_i32_48 : BitVec 32 := 0#32
  let c1_i32_49 : BitVec 32 := 1#32
  let arg7 : BitVec 32 := Scf.iv c0_i32_48 c1_i32_49 k0_t1
  let c8_i32_51 : BitVec 32 := 8#32
  let v116 : BitVec 32 := Scalar.muli arg7 c8_i32_51
  let v117 : Index := Scalar.indexCast v116
  let c0_53 : Index := 0#32
  ![0, v117.toNat, 0]
def k0_off2 (k0_t1 : Fin k0_t1_loop.trips) : Fin 3 → Nat :=
  let c0_55 : Index := 0#32
  let c0_i32_48 : BitVec 32 := 0#32
  let c1_i32_49 : BitVec 32 := 1#32
  let arg7 : BitVec 32 := Scf.iv c0_i32_48 c1_i32_49 k0_t1
  let c8_i32_54 : BitVec 32 := 8#32
  let v120 : BitVec 32 := Scalar.muli arg7 c8_i32_54
  let v121 : Index := Scalar.indexCast v120
  let c0_56 : Index := 0#32
  ![0, v121.toNat, 0]
def k0_off3 (k0_t1 : Fin k0_t1_loop.trips) : Fin 2 → Nat :=
  let c0_i32_48 : BitVec 32 := 0#32
  let c1_i32_49 : BitVec 32 := 1#32
  let arg7 : BitVec 32 := Scf.iv c0_i32_48 c1_i32_49 k0_t1
  let c8_i32_2251 : BitVec 32 := 8#32
  let v9621 : BitVec 32 := Scalar.muli arg7 c8_i32_2251
  let v9622 : Index := Scalar.indexCast v9621
  let c0_2252 : Index := 0#32
  ![v9622.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "off" => some ((-25165823 / 8388608 : ℝ) : EReal)
  | "scale" => some ((33554431 / 16777216 : ℝ) : EReal)
  | _ => none
-- ==== ReferenceIdeal.lean ====
abbrev S2048x34 : Shape := ⟨2, ![2048, 34]⟩
abbrev S2048 : Shape := ⟨1, ![2048]⟩
abbrev S_ : Shape := ⟨0, ![]⟩
abbrev S2048x1 : Shape := ⟨2, ![2048, 1]⟩
abbrev S128x16x34 : Shape := ⟨3, ![128, 16, 34]⟩
abbrev S16x128x34 : Shape := ⟨3, ![16, 128, 34]⟩
abbrev S128x16 : Shape := ⟨2, ![128, 16]⟩
abbrev S16x128 : Shape := ⟨2, ![16, 128]⟩
abbrev S128x1 : Shape := ⟨2, ![128, 1]⟩
abbrev S128 : Shape := ⟨1, ![128]⟩
abbrev S2x8x128x34 : Shape := ⟨4, ![2, 8, 128, 34]⟩
abbrev S2 : Shape := ⟨1, ![2]⟩
abbrev S2x8x128x32 : Shape := ⟨4, ![2, 8, 128, 32]⟩
abbrev S2x8x128x1 : Shape := ⟨4, ![2, 8, 128, 1]⟩
abbrev S2x128x1 : Shape := ⟨3, ![2, 128, 1]⟩
abbrev S2x128x32 : Shape := ⟨3, ![2, 128, 32]⟩
abbrev S2x8x128x1x32 : Shape := ⟨5, ![2, 8, 128, 1, 32]⟩
abbrev S2x8x128x1x1 : Shape := ⟨5, ![2, 8, 128, 1, 1]⟩
abbrev S2x1x1x128x32 : Shape := ⟨5, ![2, 1, 1, 128, 32]⟩
abbrev S2x1x1x128x1 : Shape := ⟨5, ![2, 1, 1, 128, 1]⟩
abbrev S2x8x128x128x1 : Shape := ⟨5, ![2, 8, 128, 128, 1]⟩
abbrev S2x8x128x128x32 : Shape := ⟨5, ![2, 8, 128, 128, 32]⟩
abbrev S8x128x8x128x32 : Shape := ⟨5, ![8, 128, 8, 128, 32]⟩
abbrev S1x8x128x8x128x32 : Shape := ⟨6, ![1, 8, 128, 8, 128, 32]⟩
abbrev S2x1x1x1x1x1 : Shape := ⟨6, ![2, 1, 1, 1, 1, 1]⟩
abbrev S2x8x128x8x128x32 : Shape := ⟨6, ![2, 8, 128, 8, 128, 32]⟩
abbrev S2x8x128x1x128x32 : Shape := ⟨6, ![2, 8, 128, 1, 128, 32]⟩
abbrev S2x8x128x1x128x1 : Shape := ⟨6, ![2, 8, 128, 1, 128, 1]⟩
abbrev S2x1x1x1x128x32 : Shape := ⟨6, ![2, 1, 1, 1, 128, 32]⟩
abbrev S2x1x1x1x128x1 : Shape := ⟨6, ![2, 1, 1, 1, 128, 1]⟩
abbrev S2x1x1x1x128 : Shape := ⟨5, ![2, 1, 1, 1, 128]⟩
abbrev S2x8x128x8x128 : Shape := ⟨5, ![2, 8, 128, 8, 128]⟩
abbrev S2x8x128x8 : Shape := ⟨4, ![2, 8, 128, 8]⟩
abbrev S2x8x128x128 : Shape := ⟨4, ![2, 8, 128, 128]⟩
abbrev S2x8x128 : Shape := ⟨3, ![2, 8, 128]⟩
abbrev S16x128x512 : Shape := ⟨3, ![16, 128, 512]⟩
abbrev S16x128x128 : Shape := ⟨3, ![16, 128, 128]⟩
abbrev S2048x512 : Shape := ⟨2, ![2048, 512]⟩

abbrev nBuf : Space → Nat
  | .hbm => 762
  | .vmem => 0
  | .smem => 0
  | _ => 0

abbrev hbmTy0_0 (i : Nat) : BufTy := match i % 128 with
  | 0 => ⟨S2048x34, .f32⟩
  | 1 => ⟨S2048, .i32⟩
  | 2 => ⟨S_, .f32⟩
  | 3 => ⟨S_, .f32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x34, .f32⟩
  | 16 => ⟨S128x16x34, .f32⟩
  | 17 => ⟨S16x128x34, .f32⟩
  | 18 => ⟨S128x16, .i32⟩
  | 19 => ⟨S16x128, .i32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048, .i32⟩
  | 29 => ⟨S128x16, .i32⟩
  | 30 => ⟨S128x1, .i32⟩
  | 31 => ⟨S128, .i32⟩
  | 32 => ⟨S2x8x128x34, .f32⟩
  | 33 => ⟨S2, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S2048x34, .f32⟩

abbrev hbmTy0_1 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S2048x34, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2x8x128x34, .f32⟩
  | 12 => ⟨S2x8x128x32, .f32⟩
  | 13 => ⟨S2x8x128x1, .f32⟩
  | 14 => ⟨S2x8x128x1, .f32⟩
  | 15 => ⟨S2x8x128x1, .f32⟩
  | 16 => ⟨S2x8x128x1, .f32⟩
  | 17 => ⟨S_, .f32⟩
  | 18 => ⟨S2x8x128x1, .f32⟩
  | 19 => ⟨S2x8x128x1, .f32⟩
  | 20 => ⟨S_, .f32⟩
  | 21 => ⟨S2x128x1, .f32⟩
  | 22 => ⟨S_, .f32⟩
  | 23 => ⟨S2x128x1, .f32⟩
  | 24 => ⟨S2x128x1, .f32⟩
  | 25 => ⟨S2x8x128x32, .f32⟩
  | 26 => ⟨S2x8x128x32, .f32⟩
  | 27 => ⟨S_, .f32⟩
  | 28 => ⟨S2x128x32, .f32⟩
  | 29 => ⟨S2x128x32, .f32⟩
  | 30 => ⟨S2x128x32, .f32⟩
  | 31 => ⟨S2x128x1, .f32⟩
  | 32 => ⟨S2x128x1, .f32⟩
  | 33 => ⟨S2x128x1, .f32⟩
  | 34 => ⟨S2x8x128x32, .f32⟩
  | 35 => ⟨S2x8x128x1x32, .f32⟩
  | 36 => ⟨S2x8x128x1, .f32⟩
  | 37 => ⟨S2x8x128x1x1, .f32⟩
  | 38 => ⟨S2x1x1x128x32, .f32⟩
  | 39 => ⟨S2x1x1x128x1, .f32⟩
  | 40 => ⟨S2x8x128x1x1, .f32⟩
  | 41 => ⟨S2x1x1x128x1, .f32⟩
  | 42 => ⟨S2x8x128x128x1, .f32⟩
  | 43 => ⟨S2x8x128x128x1, .f32⟩
  | 44 => ⟨S2x8x128x128x1, .f32⟩
  | 45 => ⟨S2x8x128x128x1, .f32⟩
  | 46 => ⟨S2x8x128x128x1, .f32⟩
  | 47 => ⟨S2x8x128x128x1, .f32⟩
  | 48 => ⟨S2x8x128x128x1, .f32⟩
  | 49 => ⟨S2x8x128x128x32, .f32⟩
  | 50 => ⟨S2x8x128x128x32, .f32⟩
  | 51 => ⟨S2x8x128x128x32, .f32⟩
  | 52 => ⟨S2x8x128x128x32, .f32⟩
  | 53 => ⟨S2x8x128x128x32, .f32⟩
  | 54 => ⟨S2x8x128x128x32, .f32⟩
  | 55 => ⟨S2x8x128x128x32, .f32⟩
  | 56 => ⟨S2x8x128x128x1, .f32⟩
  | 57 => ⟨S2x8x128x128x1, .f32⟩
  | 58 => ⟨S2x8x128x128x1, .f32⟩
  | 59 => ⟨S2x8x128x128x32, .f32⟩
  | 60 => ⟨S2x8x128x128x32, .f32⟩
  | 61 => ⟨S_, .i32⟩
  | 62 => ⟨S8x128x8x128x32, .i32⟩
  | 63 => ⟨S_, .i32⟩
  | 64 => ⟨S8x128x8x128x32, .i32⟩
  | 65 => ⟨S8x128x8x128x32, .i32⟩
  | 66 => ⟨S8x128x8x128x32, .i32⟩
  | 67 => ⟨S8x128x8x128x32, .i32⟩
  | 68 => ⟨S_, .i32⟩
  | 69 => ⟨S8x128x8x128x32, .i32⟩
  | 70 => ⟨S8x128x8x128x32, .i32⟩
  | 71 => ⟨S8x128x8x128x32, .i32⟩
  | 72 => ⟨S8x128x8x128x32, .i32⟩
  | 73 => ⟨S_, .i32⟩
  | 74 => ⟨S8x128x8x128x32, .i32⟩
  | 75 => ⟨S8x128x8x128x32, .i32⟩
  | 76 => ⟨S8x128x8x128x32, .i32⟩
  | 77 => ⟨S8x128x8x128x32, .i32⟩
  | 78 => ⟨S_, .i32⟩
  | 79 => ⟨S8x128x8x128x32, .i32⟩
  | 80 => ⟨S8x128x8x128x32, .i32⟩
  | 81 => ⟨S8x128x8x128x32, .i32⟩
  | 82 => ⟨S8x128x8x128x32, .i32⟩
  | 83 => ⟨S_, .i32⟩
  | 84 => ⟨S8x128x8x128x32, .i32⟩
  | 85 => ⟨S8x128x8x128x32, .i32⟩
  | 86 => ⟨S8x128x8x128x32, .i32⟩
  | 87 => ⟨S8x128x8x128x32, .i32⟩
  | 88 => ⟨S_, .i32⟩
  | 89 => ⟨S8x128x8x128x32, .i32⟩
  | 90 => ⟨S2, .i32⟩
  | 91 => ⟨S_, .i32⟩
  | 92 => ⟨S2, .i32⟩
  | 93 => ⟨S2, .i32⟩
  | 94 => ⟨S1x8x128x8x128x32, .i32⟩
  | 95 => ⟨S2x1x1x1x1x1, .i32⟩
  | 96 => ⟨S2x8x128x8x128x32, .i32⟩
  | 97 => ⟨S2x8x128x8x128x32, .i32⟩
  | 98 => ⟨S2x8x128x8x128x32, .i32⟩
  | 99 => ⟨S1x8x128x8x128x32, .i32⟩
  | 100 => ⟨S2x1x1x1x1x1, .i32⟩
  | 101 => ⟨S2x8x128x8x128x32, .i32⟩
  | 102 => ⟨S2x8x128x8x128x32, .i32⟩
  | 103 => ⟨S2x8x128x8x128x32, .i32⟩
  | 104 => ⟨S2x8x128x8x128x32, .i32⟩
  | 105 => ⟨S_, .i32⟩
  | 106 => ⟨S2x8x128x8x128x32, .i32⟩
  | 107 => ⟨S2x8x128x8x128x32, .i32⟩
  | 108 => ⟨S_, .i32⟩
  | 109 => ⟨S2x8x128x8x128x32, .i32⟩
  | 110 => ⟨S2x8x128x8x128x32, .i32⟩
  | 111 => ⟨S2x8x128x8x128x32, .i32⟩
  | 112 => ⟨S2x8x128x8x128x32, .i32⟩
  | 113 => ⟨S2x8x128x8x128x32, .i32⟩
  | 114 => ⟨S_, .i32⟩
  | 115 => ⟨S2x8x128x8x128x32, .i32⟩
  | 116 => ⟨S2x8x128x8x128x32, .i32⟩
  | 117 => ⟨S_, .i32⟩
  | 118 => ⟨S2x8x128x8x128x32, .i32⟩
  | 119 => ⟨S2x8x128x8x128x32, .i32⟩
  | 120 => ⟨S2x8x128x8x128x32, .i32⟩
  | 121 => ⟨S2x8x128x8x128x32, .i32⟩
  | 122 => ⟨S2x8x128x8x128x32, .i32⟩
  | 123 => ⟨S_, .i32⟩
  | 124 => ⟨S2x8x128x8x128x32, .i32⟩
  | 125 => ⟨S2x8x128x8x128x32, .i32⟩
  | 126 => ⟨S_, .i32⟩
  | 127 => ⟨S2x8x128x8x128x32, .i32⟩
  | _ => ⟨S2048x34, .f32⟩

abbrev hbmTy0_3 (i : Nat) : BufTy := match i % 128 with
  | 0 => ⟨S2x8x128x8x128x32, .i32⟩
  | 1 => ⟨S2x8x128x8x128x32, .i32⟩
  | 2 => ⟨S2x8x128x8x128x32, .i32⟩
  | 3 => ⟨S2x8x128x8x128x32, .i32⟩
  | 4 => ⟨S_, .i32⟩
  | 5 => ⟨S2x8x128x8x128x32, .i32⟩
  | 6 => ⟨S2x8x128x8x128x32, .i32⟩
  | 7 => ⟨S_, .i32⟩
  | 8 => ⟨S2x8x128x8x128x32, .i32⟩
  | 9 => ⟨S2x8x128x8x128x32, .i32⟩
  | 10 => ⟨S2x8x128x8x128x32, .i32⟩
  | 11 => ⟨S2x8x128x8x128x32, .i32⟩
  | 12 => ⟨S2x1x1x1x1x1, .i32⟩
  | 13 => ⟨S2x8x128x8x128x32, .i32⟩
  | 14 => ⟨S2x8x128x8x128x32, .i32⟩
  | 15 => ⟨S2x1x1x1x1x1, .i32⟩
  | 16 => ⟨S2x8x128x8x128x32, .i32⟩
  | 17 => ⟨S2x8x128x8x128x32, .i32⟩
  | 18 => ⟨S_, .i32⟩
  | 19 => ⟨S2x8x128x8x128x32, .i32⟩
  | 20 => ⟨S2x8x128x8x128x32, .i32⟩
  | 21 => ⟨S2x8x128x8x128x32, .i32⟩
  | 22 => ⟨S_, .i32⟩
  | 23 => ⟨S2x8x128x8x128x32, .i32⟩
  | 24 => ⟨S2x8x128x8x128x32, .i32⟩
  | 25 => ⟨S_, .i32⟩
  | 26 => ⟨S2x8x128x8x128x32, .i32⟩
  | 27 => ⟨S2x8x128x8x128x32, .i32⟩
  | 28 => ⟨S2x8x128x8x128x32, .i32⟩
  | 29 => ⟨S2x8x128x8x128x32, .i32⟩
  | 30 => ⟨S2x8x128x8x128x32, .i32⟩
  | 31 => ⟨S_, .i32⟩
  | 32 => ⟨S2x8x128x8x128x32, .i32⟩
  | 33 => ⟨S2x8x128x8x128x32, .i32⟩
  | 34 => ⟨S_, .i32⟩
  | 35 => ⟨S2x8x128x8x128x32, .i32⟩
  | 36 => ⟨S2x8x128x8x128x32, .i32⟩
  | 37 => ⟨S2x8x128x8x128x32, .i32⟩
  | 38 => ⟨S2x8x128x8x128x32, .i32⟩
  | 39 => ⟨S2x8x128x8x128x32, .i32⟩
  | 40 => ⟨S_, .i32⟩
  | 41 => ⟨S2x8x128x8x128x32, .i32⟩
  | 42 => ⟨S2x8x128x8x128x32, .i32⟩
  | 43 => ⟨S_, .i32⟩
  | 44 => ⟨S2x8x128x8x128x32, .i32⟩
  | 45 => ⟨S2x8x128x8x128x32, .i32⟩
  | 46 => ⟨S2x8x128x8x128x32, .i32⟩
  | 47 => ⟨S2x8x128x8x128x32, .i32⟩
  | 48 => ⟨S2x8x128x8x128x32, .i32⟩
  | 49 => ⟨S_, .i32⟩
  | 50 => ⟨S2x8x128x8x128x32, .i32⟩
  | 51 => ⟨S2x8x128x8x128x32, .i32⟩
  | 52 => ⟨S_, .i32⟩
  | 53 => ⟨S2x8x128x8x128x32, .i32⟩
  | 54 => ⟨S2x8x128x8x128x32, .i32⟩
  | 55 => ⟨S2x8x128x8x128x32, .i32⟩
  | 56 => ⟨S2x8x128x8x128x32, .i32⟩
  | 57 => ⟨S2x1x1x1x1x1, .i32⟩
  | 58 => ⟨S2x8x128x8x128x32, .i32⟩
  | 59 => ⟨S2x8x128x8x128x32, .i32⟩
  | 60 => ⟨S2x1x1x1x1x1, .i32⟩
  | 61 => ⟨S2x8x128x8x128x32, .i32⟩
  | 62 => ⟨S2x8x128x8x128x32, .i32⟩
  | 63 => ⟨S_, .i32⟩
  | 64 => ⟨S2x8x128x8x128x32, .i32⟩
  | 65 => ⟨S2x8x128x8x128x32, .i32⟩
  | 66 => ⟨S2x8x128x8x128x32, .i32⟩
  | 67 => ⟨S_, .i32⟩
  | 68 => ⟨S2x8x128x8x128x32, .i32⟩
  | 69 => ⟨S2x8x128x8x128x32, .i32⟩
  | 70 => ⟨S_, .i32⟩
  | 71 => ⟨S2x8x128x8x128x32, .i32⟩
  | 72 => ⟨S2x8x128x8x128x32, .i32⟩
  | 73 => ⟨S2x8x128x8x128x32, .i32⟩
  | 74 => ⟨S2x8x128x8x128x32, .i32⟩
  | 75 => ⟨S2x8x128x8x128x32, .i32⟩
  | 76 => ⟨S_, .i32⟩
  | 77 => ⟨S2x8x128x8x128x32, .i32⟩
  | 78 => ⟨S2x8x128x8x128x32, .i32⟩
  | 79 => ⟨S_, .i32⟩
  | 80 => ⟨S2x8x128x8x128x32, .i32⟩
  | 81 => ⟨S2x8x128x8x128x32, .i32⟩
  | 82 => ⟨S2x8x128x8x128x32, .i32⟩
  | 83 => ⟨S2x8x128x8x128x32, .i32⟩
  | 84 => ⟨S2x8x128x8x128x32, .i32⟩
  | 85 => ⟨S_, .i32⟩
  | 86 => ⟨S2x8x128x8x128x32, .i32⟩
  | 87 => ⟨S2x8x128x8x128x32, .i32⟩
  | 88 => ⟨S_, .i32⟩
  | 89 => ⟨S2x8x128x8x128x32, .i32⟩
  | 90 => ⟨S2x8x128x8x128x32, .i32⟩
  | 91 => ⟨S2x8x128x8x128x32, .i32⟩
  | 92 => ⟨S2x8x128x8x128x32, .i32⟩
  | 93 => ⟨S2x8x128x8x128x32, .i32⟩
  | 94 => ⟨S_, .i32⟩
  | 95 => ⟨S2x8x128x8x128x32, .i32⟩
  | 96 => ⟨S2x8x128x8x128x32, .i32⟩
  | 97 => ⟨S_, .i32⟩
  | 98 => ⟨S2x8x128x8x128x32, .i32⟩
  | 99 => ⟨S2x8x128x8x128x32, .i32⟩
  | 100 => ⟨S2x8x128x8x128x32, .i32⟩
  | 101 => ⟨S2x8x128x8x128x32, .i32⟩
  | 102 => ⟨S2x1x1x1x1x1, .i32⟩
  | 103 => ⟨S2x8x128x8x128x32, .i32⟩
  | 104 => ⟨S2x8x128x8x128x32, .i32⟩
  | 105 => ⟨S2x1x1x1x1x1, .i32⟩
  | 106 => ⟨S2x8x128x8x128x32, .i32⟩
  | 107 => ⟨S2x8x128x8x128x32, .i32⟩
  | 108 => ⟨S_, .i32⟩
  | 109 => ⟨S2x8x128x8x128x32, .i32⟩
  | 110 => ⟨S2x8x128x8x128x32, .i32⟩
  | 111 => ⟨S2x8x128x8x128x32, .i32⟩
  | 112 => ⟨S_, .i32⟩
  | 113 => ⟨S2x8x128x8x128x32, .i32⟩
  | 114 => ⟨S2x8x128x8x128x32, .i32⟩
  | 115 => ⟨S_, .i32⟩
  | 116 => ⟨S2x8x128x8x128x32, .i32⟩
  | 117 => ⟨S2x8x128x8x128x32, .i32⟩
  | 118 => ⟨S2x8x128x8x128x32, .i32⟩
  | 119 => ⟨S2x8x128x8x128x32, .i32⟩
  | 120 => ⟨S2x8x128x8x128x32, .i32⟩
  | 121 => ⟨S_, .i32⟩
  | 122 => ⟨S2x8x128x8x128x32, .i32⟩
  | 123 => ⟨S2x8x128x8x128x32, .i32⟩
  | 124 => ⟨S_, .i32⟩
  | 125 => ⟨S2x8x128x8x128x32, .i32⟩
  | 126 => ⟨S2x8x128x8x128x32, .i32⟩
  | 127 => ⟨S2x8x128x8x128x32, .i32⟩
  | _ => ⟨S2048x34, .f32⟩

abbrev hbmTy0_4 (i : Nat) : BufTy := match i % 128 with
  | 0 => ⟨S2x8x128x8x128x32, .i32⟩
  | 1 => ⟨S2x8x128x8x128x32, .i32⟩
  | 2 => ⟨S_, .i32⟩
  | 3 => ⟨S2x8x128x8x128x32, .i32⟩
  | 4 => ⟨S2x8x128x8x128x32, .i32⟩
  | 5 => ⟨S_, .i32⟩
  | 6 => ⟨S2x8x128x8x128x32, .i32⟩
  | 7 => ⟨S2x8x128x8x128x32, .i32⟩
  | 8 => ⟨S2x8x128x8x128x32, .i32⟩
  | 9 => ⟨S2x8x128x8x128x32, .i32⟩
  | 10 => ⟨S2x8x128x8x128x32, .i32⟩
  | 11 => ⟨S_, .i32⟩
  | 12 => ⟨S2x8x128x8x128x32, .i32⟩
  | 13 => ⟨S2x8x128x8x128x32, .i32⟩
  | 14 => ⟨S_, .i32⟩
  | 15 => ⟨S2x8x128x8x128x32, .i32⟩
  | 16 => ⟨S2x8x128x8x128x32, .i32⟩
  | 17 => ⟨S2x8x128x8x128x32, .i32⟩
  | 18 => ⟨S2x8x128x8x128x32, .i32⟩
  | 19 => ⟨S2x1x1x1x1x1, .i32⟩
  | 20 => ⟨S2x8x128x8x128x32, .i32⟩
  | 21 => ⟨S2x8x128x8x128x32, .i32⟩
  | 22 => ⟨S2x1x1x1x1x1, .i32⟩
  | 23 => ⟨S2x8x128x8x128x32, .i32⟩
  | 24 => ⟨S2x8x128x8x128x32, .i32⟩
  | 25 => ⟨S_, .i32⟩
  | 26 => ⟨S2x8x128x8x128x32, .i32⟩
  | 27 => ⟨S2x8x128x8x128x32, .i32⟩
  | 28 => ⟨S2x8x128x8x128x32, .i32⟩
  | 29 => ⟨S_, .i32⟩
  | 30 => ⟨S2x8x128x8x128x32, .i32⟩
  | 31 => ⟨S2x8x128x8x128x32, .i32⟩
  | 32 => ⟨S_, .i32⟩
  | 33 => ⟨S2x8x128x8x128x32, .i32⟩
  | 34 => ⟨S2x8x128x8x128x32, .i32⟩
  | 35 => ⟨S2x8x128x8x128x32, .i32⟩
  | 36 => ⟨S2x8x128x8x128x32, .i32⟩
  | 37 => ⟨S2x8x128x8x128x32, .i32⟩
  | 38 => ⟨S_, .i32⟩
  | 39 => ⟨S2x8x128x8x128x32, .i32⟩
  | 40 => ⟨S2x8x128x8x128x32, .i32⟩
  | 41 => ⟨S_, .i32⟩
  | 42 => ⟨S2x8x128x8x128x32, .i32⟩
  | 43 => ⟨S2x8x128x8x128x32, .i32⟩
  | 44 => ⟨S2x8x128x8x128x32, .i32⟩
  | 45 => ⟨S2x8x128x8x128x32, .i32⟩
  | 46 => ⟨S2x8x128x8x128x32, .i32⟩
  | 47 => ⟨S_, .i32⟩
  | 48 => ⟨S2x8x128x8x128x32, .i32⟩
  | 49 => ⟨S2x8x128x8x128x32, .i32⟩
  | 50 => ⟨S_, .i32⟩
  | 51 => ⟨S2x8x128x8x128x32, .i32⟩
  | 52 => ⟨S2x8x128x8x128x32, .i32⟩
  | 53 => ⟨S2x8x128x8x128x32, .i32⟩
  | 54 => ⟨S2x8x128x8x128x32, .i32⟩
  | 55 => ⟨S2x8x128x8x128x32, .i32⟩
  | 56 => ⟨S_, .i32⟩
  | 57 => ⟨S2x8x128x8x128x32, .i32⟩
  | 58 => ⟨S2x8x128x8x128x32, .i32⟩
  | 59 => ⟨S_, .i32⟩
  | 60 => ⟨S2x8x128x8x128x32, .i32⟩
  | 61 => ⟨S2x8x128x8x128x32, .i32⟩
  | 62 => ⟨S2x8x128x8x128x32, .i32⟩
  | 63 => ⟨S2x8x128x8x128x32, .i32⟩
  | 64 => ⟨S2x1x1x1x1x1, .i32⟩
  | 65 => ⟨S2x8x128x8x128x32, .i32⟩
  | 66 => ⟨S2x8x128x8x128x32, .i32⟩
  | 67 => ⟨S2x1x1x1x1x1, .i32⟩
  | 68 => ⟨S2x8x128x8x128x32, .i32⟩
  | 69 => ⟨S2x8x128x8x128x32, .i32⟩
  | 70 => ⟨S_, .i32⟩
  | 71 => ⟨S2x8x128x8x128x32, .i32⟩
  | 72 => ⟨S2x8x128x8x128x32, .i32⟩
  | 73 => ⟨S2x8x128x8x128x32, .i32⟩
  | 74 => ⟨S_, .i32⟩
  | 75 => ⟨S2x8x128x8x128x32, .i32⟩
  | 76 => ⟨S2x8x128x8x128x32, .i32⟩
  | 77 => ⟨S_, .i32⟩
  | 78 => ⟨S2x8x128x8x128x32, .i32⟩
  | 79 => ⟨S2x8x128x8x128x32, .i32⟩
  | 80 => ⟨S2x8x128x8x128x32, .f32⟩
  | 81 => ⟨S_, .f32⟩
  | 82 => ⟨S2x8x128x8x128x32, .f32⟩
  | 83 => ⟨S2x8x128x8x128x32, .f32⟩
  | 84 => ⟨S_, .f32⟩
  | 85 => ⟨S_, .f32⟩
  | 86 => ⟨S_, .f32⟩
  | 87 => ⟨S2x8x128x8x128x32, .f32⟩
  | 88 => ⟨S2x8x128x8x128x32, .f32⟩
  | 89 => ⟨S_, .f32⟩
  | 90 => ⟨S2x8x128x8x128x32, .f32⟩
  | 91 => ⟨S2x8x128x8x128x32, .f32⟩
  | 92 => ⟨S_, .f32⟩
  | 93 => ⟨S2x8x128x8x128x32, .f32⟩
  | 94 => ⟨S2x8x128x8x128x32, .f32⟩
  | 95 => ⟨S2x8x128x8x128x32, .f32⟩
  | 96 => ⟨S2x8x128x8x128x32, .f32⟩
  | 97 => ⟨S2x8x128x8x128x32, .f32⟩
  | 98 => ⟨S2x8x128x8x128x32, .f32⟩
  | 99 => ⟨S_, .f32⟩
  | 100 => ⟨S2x8x128x8x128x32, .f32⟩
  | 101 => ⟨S2x8x128x8x128x32, .f32⟩
  | 102 => ⟨S2x8x128x8x128x32, .f32⟩
  | 103 => ⟨S_, .f32⟩
  | 104 => ⟨S2x8x128x8x128x32, .f32⟩
  | 105 => ⟨S2x8x128x8x128x32, .f32⟩
  | 106 => ⟨S_, .f32⟩
  | 107 => ⟨S2x8x128x8x128x32, .f32⟩
  | 108 => ⟨S2x8x128x8x128x32, .f32⟩
  | 109 => ⟨S_, .f32⟩
  | 110 => ⟨S2x8x128x8x128x32, .f32⟩
  | 111 => ⟨S2x8x128x8x128x32, .f32⟩
  | 112 => ⟨S_, .f32⟩
  | 113 => ⟨S2x8x128x8x128x32, .f32⟩
  | 114 => ⟨S2x8x128x8x128x32, .f32⟩
  | 115 => ⟨S_, .f32⟩
  | 116 => ⟨S2x8x128x8x128x32, .f32⟩
  | 117 => ⟨S2x8x128x8x128x32, .f32⟩
  | 118 => ⟨S2x8x128x8x128x32, .f32⟩
  | 119 => ⟨S_, .f32⟩
  | 120 => ⟨S2x8x128x8x128x32, .f32⟩
  | 121 => ⟨S2x8x128x8x128x32, .f32⟩
  | 122 => ⟨S2x8x128x8x128x32, .f32⟩
  | 123 => ⟨S_, .f32⟩
  | 124 => ⟨S2x8x128x8x128x32, .f32⟩
  | 125 => ⟨S2x8x128x8x128x32, .f32⟩
  | 126 => ⟨S2x8x128x8x128x32, .f32⟩
  | 127 => ⟨S_, .f32⟩
  | _ => ⟨S2048x34, .f32⟩

abbrev hbmTy0_5 (i : Nat) : BufTy := match i % 128 with
  | 0 => ⟨S2x8x128x8x128x32, .f32⟩
  | 1 => ⟨S2x8x128x8x128x32, .f32⟩
  | 2 => ⟨S2x8x128x8x128x32, .f32⟩
  | 3 => ⟨S_, .f32⟩
  | 4 => ⟨S2x8x128x8x128x32, .f32⟩
  | 5 => ⟨S2x8x128x8x128x32, .f32⟩
  | 6 => ⟨S2x8x128x8x128x32, .f32⟩
  | 7 => ⟨S_, .f32⟩
  | 8 => ⟨S2x8x128x8x128x32, .f32⟩
  | 9 => ⟨S2x8x128x8x128x32, .f32⟩
  | 10 => ⟨S2x8x128x8x128x32, .f32⟩
  | 11 => ⟨S_, .f32⟩
  | 12 => ⟨S2x8x128x8x128x32, .f32⟩
  | 13 => ⟨S2x8x128x8x128x32, .f32⟩
  | 14 => ⟨S2x8x128x8x128x32, .f32⟩
  | 15 => ⟨S_, .f32⟩
  | 16 => ⟨S2x8x128x8x128x32, .f32⟩
  | 17 => ⟨S2x8x128x8x128x32, .f32⟩
  | 18 => ⟨S2x8x128x8x128x32, .f32⟩
  | 19 => ⟨S_, .f32⟩
  | 20 => ⟨S2x8x128x8x128x32, .f32⟩
  | 21 => ⟨S2x8x128x8x128x32, .f32⟩
  | 22 => ⟨S_, .f32⟩
  | 23 => ⟨S2x8x128x8x128x32, .f32⟩
  | 24 => ⟨S2x8x128x8x128x32, .i1⟩
  | 25 => ⟨S2x8x128x8x128x32, .f32⟩
  | 26 => ⟨S2x8x128x8x128x32, .f32⟩
  | 27 => ⟨S_, .f32⟩
  | 28 => ⟨S2x8x128x8x128x32, .f32⟩
  | 29 => ⟨S2x8x128x8x128x32, .f32⟩
  | 30 => ⟨S2x8x128x1x128x32, .f32⟩
  | 31 => ⟨S2x8x128x1x128x1, .f32⟩
  | 32 => ⟨S2x8x128x1x128x1, .f32⟩
  | 33 => ⟨S2x8x128x8x128x32, .f32⟩
  | 34 => ⟨S2x8x128x8x128x32, .f32⟩
  | 35 => ⟨S2x8x128x8x128x32, .f32⟩
  | 36 => ⟨S2x8x128x8x128x32, .f32⟩
  | 37 => ⟨S2x1x1x1x128x32, .f32⟩
  | 38 => ⟨S2x1x1x1x128x1, .f32⟩
  | 39 => ⟨S2x1x1x1x128, .f32⟩
  | 40 => ⟨S2x8x128x8x128x32, .f32⟩
  | 41 => ⟨S2x8x128x8x128x32, .f32⟩
  | 42 => ⟨S2x8x128x8x128x32, .f32⟩
  | 43 => ⟨S_, .f32⟩
  | 44 => ⟨S2x8x128x8x128, .f32⟩
  | 45 => ⟨S2x1x1x1x128, .f32⟩
  | 46 => ⟨S_, .f32⟩
  | 47 => ⟨S2x1x1x1x128, .f32⟩
  | 48 => ⟨S2x1x1x1x128, .f32⟩
  | 49 => ⟨S_, .f32⟩
  | 50 => ⟨S2x1x1x1x128, .f32⟩
  | 51 => ⟨S2x1x1x1x128, .f32⟩
  | 52 => ⟨S_, .f32⟩
  | 53 => ⟨S2x8x128x8x128, .f32⟩
  | 54 => ⟨S2x8x128x8x128, .f32⟩
  | 55 => ⟨S2x8x128x8x128, .f32⟩
  | 56 => ⟨S2x8x128x8x128, .f32⟩
  | 57 => ⟨S2x8x128x8x128, .f32⟩
  | 58 => ⟨S2x8x128x8x128, .f32⟩
  | 59 => ⟨S2x8x128x8x128, .f32⟩
  | 60 => ⟨S_, .f32⟩
  | 61 => ⟨S2x8x128x8, .f32⟩
  | 62 => ⟨S2x8x128x8, .f32⟩
  | 63 => ⟨S2x8x128x128x1, .f32⟩
  | 64 => ⟨S2x8x128x128x1, .f32⟩
  | 65 => ⟨S2x8x128x128x1, .f32⟩
  | 66 => ⟨S2x8x128x128, .f32⟩
  | 67 => ⟨S2x8x128x128x32, .f32⟩
  | 68 => ⟨S2x8x128x128x32, .f32⟩
  | 69 => ⟨S2x8x128x128x32, .f32⟩
  | 70 => ⟨S2x8x128x128x32, .f32⟩
  | 71 => ⟨S_, .f32⟩
  | 72 => ⟨S2x8x128x128, .f32⟩
  | 73 => ⟨S2x8x128x128, .f32⟩
  | 74 => ⟨S_, .f32⟩
  | 75 => ⟨S2x8x128x128, .f32⟩
  | 76 => ⟨S2x8x128x128, .f32⟩
  | 77 => ⟨S_, .f32⟩
  | 78 => ⟨S2x8x128x128, .f32⟩
  | 79 => ⟨S2x8x128x128, .f32⟩
  | 80 => ⟨S_, .f32⟩
  | 81 => ⟨S2x8x128x128, .f32⟩
  | 82 => ⟨S2x8x128x128, .f32⟩
  | 83 => ⟨S2x8x128x128, .f32⟩
  | 84 => ⟨S2x8x128x128, .f32⟩
  | 85 => ⟨S2x8x128x8, .f32⟩
  | 86 => ⟨S2x8x128x8, .f32⟩
  | 87 => ⟨S_, .f32⟩
  | 88 => ⟨S2x8x128, .f32⟩
  | 89 => ⟨S2x8x128, .f32⟩
  | 90 => ⟨S2x8x128x1, .f32⟩
  | 91 => ⟨S2x8x128x128, .f32⟩
  | 92 => ⟨S2x8x128x128, .f32⟩
  | 93 => ⟨S_, .f32⟩
  | 94 => ⟨S2x8x128x128, .f32⟩
  | 95 => ⟨S2x8x128x128, .f32⟩
  | 96 => ⟨S_, .f32⟩
  | 97 => ⟨S16x128x512, .f32⟩
  | 98 => ⟨S16x128x128, .f32⟩
  | 99 => ⟨S_, .i32⟩
  | 100 => ⟨S128, .i32⟩
  | 101 => ⟨S128, .i1⟩
  | 102 => ⟨S_, .i32⟩
  | 103 => ⟨S128, .i32⟩
  | 104 => ⟨S128, .i32⟩
  | 105 => ⟨S128, .i32⟩
  | 106 => ⟨S128x1, .i32⟩
  | 107 => ⟨S16x128x512, .f32⟩
  | 108 => ⟨S2048x512, .f32⟩
  | 109 => ⟨S2048, .i32⟩
  | 110 => ⟨S2048, .i32⟩
  | 111 => ⟨S2048, .i32⟩
  | 112 => ⟨S2048, .i32⟩
  | 113 => ⟨S_, .i32⟩
  | 114 => ⟨S2048, .i32⟩
  | 115 => ⟨S2048, .i1⟩
  | 116 => ⟨S_, .i32⟩
  | 117 => ⟨S2048, .i32⟩
  | 118 => ⟨S2048, .i32⟩
  | 119 => ⟨S2048, .i32⟩
  | 120 => ⟨S2048x1, .i32⟩
  | 121 => ⟨S2048x512, .f32⟩
  | _ => ⟨S2048x34, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x34, .f32⟩

abbrev bufTy : (tb : Table) → Fin (tcTables nBuf tb) → BufTy
  | .hbm, ⟨i, _⟩ => hbmTy i
  | _, _ => ⟨S2048x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_c_4 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_c_6 : Ref sig .tc := ⟨.hbm, 39, rfl⟩
abbrev main_c_7 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_13 : Ref sig .tc := ⟨.hbm, 65, rfl⟩
abbrev main_v46 : Ref sig .tc := ⟨.hbm, 66, rfl⟩
abbrev main_v47 : Ref sig .tc := ⟨.hbm, 67, rfl⟩
abbrev main_c_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_15 : Ref sig .tc := ⟨.hbm, 74, rfl⟩
abbrev main_v53 : Ref sig .tc := ⟨.hbm, 75, rfl⟩
abbrev main_v54 : Ref sig .tc := ⟨.hbm, 76, rfl⟩
abbrev main_c_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_18 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_19 : Ref sig .tc := ⟨.hbm, 91, rfl⟩
abbrev main_v66 : Ref sig .tc := ⟨.hbm, 92, rfl⟩
abbrev main_v67 : Ref sig .tc := ⟨.hbm, 93, rfl⟩
abbrev main_c_20 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_21 : Ref sig .tc := ⟨.hbm, 100, rfl⟩
abbrev main_v73 : Ref sig .tc := ⟨.hbm, 101, rfl⟩
abbrev main_v74 : Ref sig .tc := ⟨.hbm, 102, rfl⟩
abbrev main_c_22 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_23 : Ref sig .tc := ⟨.hbm, 109, rfl⟩
abbrev main_v80 : Ref sig .tc := ⟨.hbm, 110, rfl⟩
abbrev main_v81 : Ref sig .tc := ⟨.hbm, 111, rfl⟩
abbrev main_c_24 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_25 : Ref sig .tc := ⟨.hbm, 118, rfl⟩
abbrev main_v87 : Ref sig .tc := ⟨.hbm, 119, rfl⟩
abbrev main_v88 : Ref sig .tc := ⟨.hbm, 120, rfl⟩
abbrev main_c_26 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_27 : Ref sig .tc := ⟨.hbm, 128, rfl⟩
abbrev main_v95 : Ref sig .tc := ⟨.hbm, 129, rfl⟩
abbrev main_v96 : Ref sig .tc := ⟨.hbm, 130, rfl⟩
abbrev main_c_28 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_29 : Ref sig .tc := ⟨.hbm, 135, rfl⟩
abbrev main_v100 : Ref sig .tc := ⟨.hbm, 136, rfl⟩
abbrev main_v101 : Ref sig .tc := ⟨.hbm, 137, rfl⟩
abbrev main_c_30 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_31 : Ref sig .tc := ⟨.hbm, 144, rfl⟩
abbrev main_v107 : Ref sig .tc := ⟨.hbm, 145, rfl⟩
abbrev main_v108 : Ref sig .tc := ⟨.hbm, 146, rfl⟩
abbrev main_c_32 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_33 : Ref sig .tc := ⟨.hbm, 153, rfl⟩
abbrev main_v114 : Ref sig .tc := ⟨.hbm, 154, rfl⟩
abbrev main_v115 : Ref sig .tc := ⟨.hbm, 155, rfl⟩
abbrev main_c_34 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_35 : Ref sig .tc := ⟨.hbm, 162, rfl⟩
abbrev main_v121 : Ref sig .tc := ⟨.hbm, 163, rfl⟩
abbrev main_v122 : Ref sig .tc := ⟨.hbm, 164, rfl⟩
abbrev main_c_36 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_37 : Ref sig .tc := ⟨.hbm, 170, rfl⟩
abbrev main_v127 : Ref sig .tc := ⟨.hbm, 171, rfl⟩
abbrev main_v128 : Ref sig .tc := ⟨.hbm, 172, rfl⟩
abbrev main_c_38 : Ref sig .tc := ⟨.hbm, 173, rfl⟩
abbrev main_v129 : Ref sig .tc := ⟨.hbm, 174, rfl⟩
abbrev main_v130 : Ref sig .tc := ⟨.hbm, 175, rfl⟩
abbrev main_c_39 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_40 : Ref sig .tc := ⟨.hbm, 180, rfl⟩
abbrev main_v134 : Ref sig .tc := ⟨.hbm, 181, rfl⟩
abbrev main_v135 : Ref sig .tc := ⟨.hbm, 182, rfl⟩
abbrev main_c_41 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_c_42 : Ref sig .tc := ⟨.hbm, 189, rfl⟩
abbrev main_v141 : Ref sig .tc := ⟨.hbm, 190, rfl⟩
abbrev main_v142 : Ref sig .tc := ⟨.hbm, 191, rfl⟩
abbrev main_c_43 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_c_44 : Ref sig .tc := ⟨.hbm, 198, rfl⟩
abbrev main_v148 : Ref sig .tc := ⟨.hbm, 199, rfl⟩
abbrev main_v149 : Ref sig .tc := ⟨.hbm, 200, rfl⟩
abbrev main_c_45 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_c_46 : Ref sig .tc := ⟨.hbm, 207, rfl⟩
abbrev main_v155 : Ref sig .tc := ⟨.hbm, 208, rfl⟩
abbrev main_v156 : Ref sig .tc := ⟨.hbm, 209, rfl⟩
abbrev main_c_47 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_48 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_c_49 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_c_50 : Ref sig .tc := ⟨.hbm, 224, rfl⟩
abbrev main_v168 : Ref sig .tc := ⟨.hbm, 225, rfl⟩
abbrev main_v169 : Ref sig .tc := ⟨.hbm, 226, rfl⟩
abbrev main_c_51 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_52 : Ref sig .tc := ⟨.hbm, 233, rfl⟩
abbrev main_v175 : Ref sig .tc := ⟨.hbm, 234, rfl⟩
abbrev main_v176 : Ref sig .tc := ⟨.hbm, 235, rfl⟩
abbrev main_c_53 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_c_54 : Ref sig .tc := ⟨.hbm, 242, rfl⟩
abbrev main_v182 : Ref sig .tc := ⟨.hbm, 243, rfl⟩
abbrev main_v183 : Ref sig .tc := ⟨.hbm, 244, rfl⟩
abbrev main_c_55 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_c_56 : Ref sig .tc := ⟨.hbm, 251, rfl⟩
abbrev main_v189 : Ref sig .tc := ⟨.hbm, 252, rfl⟩
abbrev main_v190 : Ref sig .tc := ⟨.hbm, 253, rfl⟩
abbrev main_c_57 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_c_58 : Ref sig .tc := ⟨.hbm, 261, rfl⟩
abbrev main_v197 : Ref sig .tc := ⟨.hbm, 262, rfl⟩
abbrev main_v198 : Ref sig .tc := ⟨.hbm, 263, rfl⟩
abbrev main_c_59 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_cst : Ref sig .tc := ⟨.hbm, 273, rfl⟩
abbrev main_v207 : Ref sig .tc := ⟨.hbm, 274, rfl⟩
abbrev main_v208 : Ref sig .tc := ⟨.hbm, 275, rfl⟩
abbrev main_cst_60 : Ref sig .tc := ⟨.hbm, 276, rfl⟩
abbrev main_v209 : Ref sig .tc := ⟨.hbm, 277, rfl⟩
abbrev main_cst_61 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_cst_62 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_c_63 : Ref sig .tc := ⟨.hbm, 317, rfl⟩
abbrev main_v247 : Ref sig .tc := ⟨.hbm, 318, rfl⟩
abbrev main_c_64 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_c_65 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_c_66 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_c_67 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_c_68 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_c_69 : Ref sig .tc := ⟨.hbm, 344, rfl⟩
abbrev main_v268 : Ref sig .tc := ⟨.hbm, 345, rfl⟩
abbrev main_v269 : Ref sig .tc := ⟨.hbm, 346, rfl⟩
abbrev main_c_70 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_c_71 : Ref sig .tc := ⟨.hbm, 361, rfl⟩
abbrev main_v283 : Ref sig .tc := ⟨.hbm, 362, rfl⟩
abbrev main_v284 : Ref sig .tc := ⟨.hbm, 363, rfl⟩
abbrev main_c_72 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_c_73 : Ref sig .tc := ⟨.hbm, 370, rfl⟩
abbrev main_v290 : Ref sig .tc := ⟨.hbm, 371, rfl⟩
abbrev main_v291 : Ref sig .tc := ⟨.hbm, 372, rfl⟩
abbrev main_c_74 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_c_75 : Ref sig .tc := ⟨.hbm, 379, rfl⟩
abbrev main_v297 : Ref sig .tc := ⟨.hbm, 380, rfl⟩
abbrev main_v298 : Ref sig .tc := ⟨.hbm, 381, rfl⟩
abbrev main_c_76 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_c_77 : Ref sig .tc := ⟨.hbm, 388, rfl⟩
abbrev main_v304 : Ref sig .tc := ⟨.hbm, 389, rfl⟩
abbrev main_v305 : Ref sig .tc := ⟨.hbm, 390, rfl⟩
abbrev main_c_78 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_v315 : Ref sig .tc := ⟨.hbm, 401, rfl⟩
abbrev main_c_79 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_c_80 : Ref sig .tc := ⟨.hbm, 406, rfl⟩
abbrev main_v319 : Ref sig .tc := ⟨.hbm, 407, rfl⟩
abbrev main_v320 : Ref sig .tc := ⟨.hbm, 408, rfl⟩
abbrev main_c_81 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_c_82 : Ref sig .tc := ⟨.hbm, 415, rfl⟩
abbrev main_v326 : Ref sig .tc := ⟨.hbm, 416, rfl⟩
abbrev main_v327 : Ref sig .tc := ⟨.hbm, 417, rfl⟩
abbrev main_c_83 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_v332 : Ref sig .tc := ⟨.hbm, 423, rfl⟩
abbrev main_c_84 : Ref sig .tc := ⟨.hbm, 424, rfl⟩
abbrev main_v333 : Ref sig .tc := ⟨.hbm, 425, rfl⟩
abbrev main_v334 : Ref sig .tc := ⟨.hbm, 426, rfl⟩
abbrev main_c_85 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_c_86 : Ref sig .tc := ⟨.hbm, 433, rfl⟩
abbrev main_v340 : Ref sig .tc := ⟨.hbm, 434, rfl⟩
abbrev main_v341 : Ref sig .tc := ⟨.hbm, 435, rfl⟩
abbrev main_c_87 : Ref sig .tc := ⟨.hbm, 436, rfl⟩
abbrev main_v342 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_v348 : Ref sig .tc := ⟨.hbm, 443, rfl⟩
abbrev main_v349 : Ref sig .tc := ⟨.hbm, 444, rfl⟩
abbrev main_v350 : Ref sig .tc := ⟨.hbm, 445, rfl⟩
abbrev main_v351 : Ref sig .tc := ⟨.hbm, 446, rfl⟩
abbrev main_c_88 : Ref sig .tc := ⟨.hbm, 447, rfl⟩
abbrev main_v352 : Ref sig .tc := ⟨.hbm, 448, rfl⟩
abbrev main_v353 : Ref sig .tc := ⟨.hbm, 449, rfl⟩
abbrev main_v354 : Ref sig .tc := ⟨.hbm, 450, rfl⟩
abbrev main_c_89 : Ref sig .tc := ⟨.hbm, 451, rfl⟩
abbrev main_v355 : Ref sig .tc := ⟨.hbm, 452, rfl⟩
abbrev main_v356 : Ref sig .tc := ⟨.hbm, 453, rfl⟩
abbrev main_c_90 : Ref sig .tc := ⟨.hbm, 454, rfl⟩
abbrev main_v357 : Ref sig .tc := ⟨.hbm, 455, rfl⟩
abbrev main_v358 : Ref sig .tc := ⟨.hbm, 456, rfl⟩
abbrev main_v359 : Ref sig .tc := ⟨.hbm, 457, rfl⟩
abbrev main_v360 : Ref sig .tc := ⟨.hbm, 458, rfl⟩
abbrev main_v361 : Ref sig .tc := ⟨.hbm, 459, rfl⟩
abbrev main_c_91 : Ref sig .tc := ⟨.hbm, 460, rfl⟩
abbrev main_v362 : Ref sig .tc := ⟨.hbm, 461, rfl⟩
abbrev main_v363 : Ref sig .tc := ⟨.hbm, 462, rfl⟩
abbrev main_c_92 : Ref sig .tc := ⟨.hbm, 463, rfl⟩
abbrev main_v364 : Ref sig .tc := ⟨.hbm, 464, rfl⟩
abbrev main_v365 : Ref sig .tc := ⟨.hbm, 465, rfl⟩
abbrev main_v366 : Ref sig .tc := ⟨.hbm, 466, rfl⟩
abbrev main_v367 : Ref sig .tc := ⟨.hbm, 467, rfl⟩
abbrev main_v368 : Ref sig .tc := ⟨.hbm, 468, rfl⟩
abbrev main_c_93 : Ref sig .tc := ⟨.hbm, 469, rfl⟩
abbrev main_v369 : Ref sig .tc := ⟨.hbm, 470, rfl⟩
abbrev main_v370 : Ref sig .tc := ⟨.hbm, 471, rfl⟩
abbrev main_c_94 : Ref sig .tc := ⟨.hbm, 472, rfl⟩
abbrev main_v371 : Ref sig .tc := ⟨.hbm, 473, rfl⟩
abbrev main_v372 : Ref sig .tc := ⟨.hbm, 474, rfl⟩
abbrev main_v373 : Ref sig .tc := ⟨.hbm, 475, rfl⟩
abbrev main_v374 : Ref sig .tc := ⟨.hbm, 476, rfl⟩
abbrev main_v375 : Ref sig .tc := ⟨.hbm, 477, rfl⟩
abbrev main_c_95 : Ref sig .tc := ⟨.hbm, 478, rfl⟩
abbrev main_v376 : Ref sig .tc := ⟨.hbm, 479, rfl⟩
abbrev main_v377 : Ref sig .tc := ⟨.hbm, 480, rfl⟩
abbrev main_c_96 : Ref sig .tc := ⟨.hbm, 481, rfl⟩
abbrev main_v378 : Ref sig .tc := ⟨.hbm, 482, rfl⟩
abbrev main_v379 : Ref sig .tc := ⟨.hbm, 483, rfl⟩
abbrev main_v380 : Ref sig .tc := ⟨.hbm, 484, rfl⟩
abbrev main_v381 : Ref sig .tc := ⟨.hbm, 485, rfl⟩
abbrev main_v382 : Ref sig .tc := ⟨.hbm, 486, rfl⟩
abbrev main_v383 : Ref sig .tc := ⟨.hbm, 487, rfl⟩
abbrev main_v384 : Ref sig .tc := ⟨.hbm, 488, rfl⟩
abbrev main_v385 : Ref sig .tc := ⟨.hbm, 489, rfl⟩
abbrev main_v386 : Ref sig .tc := ⟨.hbm, 490, rfl⟩
abbrev main_v387 : Ref sig .tc := ⟨.hbm, 491, rfl⟩
abbrev main_c_97 : Ref sig .tc := ⟨.hbm, 492, rfl⟩
abbrev main_v388 : Ref sig .tc := ⟨.hbm, 493, rfl⟩
abbrev main_v389 : Ref sig .tc := ⟨.hbm, 494, rfl⟩
abbrev main_v390 : Ref sig .tc := ⟨.hbm, 495, rfl⟩
abbrev main_c_98 : Ref sig .tc := ⟨.hbm, 496, rfl⟩
abbrev main_v391 : Ref sig .tc := ⟨.hbm, 497, rfl⟩
abbrev main_v392 : Ref sig .tc := ⟨.hbm, 498, rfl⟩
abbrev main_c_99 : Ref sig .tc := ⟨.hbm, 499, rfl⟩
abbrev main_v393 : Ref sig .tc := ⟨.hbm, 500, rfl⟩
abbrev main_v394 : Ref sig .tc := ⟨.hbm, 501, rfl⟩
abbrev main_v395 : Ref sig .tc := ⟨.hbm, 502, rfl⟩
abbrev main_v396 : Ref sig .tc := ⟨.hbm, 503, rfl⟩
abbrev main_v397 : Ref sig .tc := ⟨.hbm, 504, rfl⟩
abbrev main_c_100 : Ref sig .tc := ⟨.hbm, 505, rfl⟩
abbrev main_v398 : Ref sig .tc := ⟨.hbm, 506, rfl⟩
abbrev main_v399 : Ref sig .tc := ⟨.hbm, 507, rfl⟩
abbrev main_c_101 : Ref sig .tc := ⟨.hbm, 508, rfl⟩
abbrev main_v400 : Ref sig .tc := ⟨.hbm, 509, rfl⟩
abbrev main_v401 : Ref sig .tc := ⟨.hbm, 510, rfl⟩
abbrev main_v402 : Ref sig .tc := ⟨.hbm, 511, rfl⟩
abbrev main_v403 : Ref sig .tc := ⟨.hbm, 512, rfl⟩
abbrev main_v404 : Ref sig .tc := ⟨.hbm, 513, rfl⟩
abbrev main_c_102 : Ref sig .tc := ⟨.hbm, 514, rfl⟩
abbrev main_v405 : Ref sig .tc := ⟨.hbm, 515, rfl⟩
abbrev main_v406 : Ref sig .tc := ⟨.hbm, 516, rfl⟩
abbrev main_c_103 : Ref sig .tc := ⟨.hbm, 517, rfl⟩
abbrev main_v407 : Ref sig .tc := ⟨.hbm, 518, rfl⟩
abbrev main_v408 : Ref sig .tc := ⟨.hbm, 519, rfl⟩
abbrev main_v409 : Ref sig .tc := ⟨.hbm, 520, rfl⟩
abbrev main_v410 : Ref sig .tc := ⟨.hbm, 521, rfl⟩
abbrev main_v411 : Ref sig .tc := ⟨.hbm, 522, rfl⟩
abbrev main_c_104 : Ref sig .tc := ⟨.hbm, 523, rfl⟩
abbrev main_v412 : Ref sig .tc := ⟨.hbm, 524, rfl⟩
abbrev main_v413 : Ref sig .tc := ⟨.hbm, 525, rfl⟩
abbrev main_c_105 : Ref sig .tc := ⟨.hbm, 526, rfl⟩
abbrev main_v414 : Ref sig .tc := ⟨.hbm, 527, rfl⟩
abbrev main_v415 : Ref sig .tc := ⟨.hbm, 528, rfl⟩
abbrev main_v416 : Ref sig .tc := ⟨.hbm, 529, rfl⟩
abbrev main_v417 : Ref sig .tc := ⟨.hbm, 530, rfl⟩
abbrev main_v418 : Ref sig .tc := ⟨.hbm, 531, rfl⟩
abbrev main_v419 : Ref sig .tc := ⟨.hbm, 532, rfl⟩
abbrev main_v420 : Ref sig .tc := ⟨.hbm, 533, rfl⟩
abbrev main_v421 : Ref sig .tc := ⟨.hbm, 534, rfl⟩
abbrev main_v422 : Ref sig .tc := ⟨.hbm, 535, rfl⟩
abbrev main_v423 : Ref sig .tc := ⟨.hbm, 536, rfl⟩
abbrev main_c_106 : Ref sig .tc := ⟨.hbm, 537, rfl⟩
abbrev main_v424 : Ref sig .tc := ⟨.hbm, 538, rfl⟩
abbrev main_v425 : Ref sig .tc := ⟨.hbm, 539, rfl⟩
abbrev main_v426 : Ref sig .tc := ⟨.hbm, 540, rfl⟩
abbrev main_c_107 : Ref sig .tc := ⟨.hbm, 541, rfl⟩
abbrev main_v427 : Ref sig .tc := ⟨.hbm, 542, rfl⟩
abbrev main_v428 : Ref sig .tc := ⟨.hbm, 543, rfl⟩
abbrev main_c_108 : Ref sig .tc := ⟨.hbm, 544, rfl⟩
abbrev main_v429 : Ref sig .tc := ⟨.hbm, 545, rfl⟩
abbrev main_v430 : Ref sig .tc := ⟨.hbm, 546, rfl⟩
abbrev main_v431 : Ref sig .tc := ⟨.hbm, 547, rfl⟩
abbrev main_v432 : Ref sig .tc := ⟨.hbm, 548, rfl⟩
abbrev main_v433 : Ref sig .tc := ⟨.hbm, 549, rfl⟩
abbrev main_c_109 : Ref sig .tc := ⟨.hbm, 550, rfl⟩
abbrev main_v434 : Ref sig .tc := ⟨.hbm, 551, rfl⟩
abbrev main_v435 : Ref sig .tc := ⟨.hbm, 552, rfl⟩
abbrev main_c_110 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_c_111 : Ref sig .tc := ⟨.hbm, 559, rfl⟩
abbrev main_v441 : Ref sig .tc := ⟨.hbm, 560, rfl⟩
abbrev main_v442 : Ref sig .tc := ⟨.hbm, 561, rfl⟩
abbrev main_c_112 : Ref sig .tc := ⟨.hbm, 562, rfl⟩
abbrev main_v443 : Ref sig .tc := ⟨.hbm, 563, rfl⟩
abbrev main_v444 : Ref sig .tc := ⟨.hbm, 564, rfl⟩
abbrev main_v445 : Ref sig .tc := ⟨.hbm, 565, rfl⟩
abbrev main_v446 : Ref sig .tc := ⟨.hbm, 566, rfl⟩
abbrev main_v447 : Ref sig .tc := ⟨.hbm, 567, rfl⟩
abbrev main_c_113 : Ref sig .tc := ⟨.hbm, 568, rfl⟩
abbrev main_v448 : Ref sig .tc := ⟨.hbm, 569, rfl⟩
abbrev main_v449 : Ref sig .tc := ⟨.hbm, 570, rfl⟩
abbrev main_c_114 : Ref sig .tc := ⟨.hbm, 571, rfl⟩
abbrev main_v450 : Ref sig .tc := ⟨.hbm, 572, rfl⟩
abbrev main_v451 : Ref sig .tc := ⟨.hbm, 573, rfl⟩
abbrev main_v452 : Ref sig .tc := ⟨.hbm, 574, rfl⟩
abbrev main_v453 : Ref sig .tc := ⟨.hbm, 575, rfl⟩
abbrev main_v454 : Ref sig .tc := ⟨.hbm, 576, rfl⟩
abbrev main_v455 : Ref sig .tc := ⟨.hbm, 577, rfl⟩
abbrev main_v456 : Ref sig .tc := ⟨.hbm, 578, rfl⟩
abbrev main_v457 : Ref sig .tc := ⟨.hbm, 579, rfl⟩
abbrev main_v458 : Ref sig .tc := ⟨.hbm, 580, rfl⟩
abbrev main_v459 : Ref sig .tc := ⟨.hbm, 581, rfl⟩
abbrev main_c_115 : Ref sig .tc := ⟨.hbm, 582, rfl⟩
abbrev main_v460 : Ref sig .tc := ⟨.hbm, 583, rfl⟩
abbrev main_v461 : Ref sig .tc := ⟨.hbm, 584, rfl⟩
abbrev main_v462 : Ref sig .tc := ⟨.hbm, 585, rfl⟩
abbrev main_c_116 : Ref sig .tc := ⟨.hbm, 586, rfl⟩
abbrev main_v463 : Ref sig .tc := ⟨.hbm, 587, rfl⟩
abbrev main_v464 : Ref sig .tc := ⟨.hbm, 588, rfl⟩
abbrev main_c_117 : Ref sig .tc := ⟨.hbm, 589, rfl⟩
abbrev main_v465 : Ref sig .tc := ⟨.hbm, 590, rfl⟩
abbrev main_v466 : Ref sig .tc := ⟨.hbm, 591, rfl⟩
abbrev main_v467 : Ref sig .tc := ⟨.hbm, 592, rfl⟩
abbrev main_cst_118 : Ref sig .tc := ⟨.hbm, 593, rfl⟩
abbrev main_v468 : Ref sig .tc := ⟨.hbm, 594, rfl⟩
abbrev main_v469 : Ref sig .tc := ⟨.hbm, 595, rfl⟩
abbrev main_cst_119 : Ref sig .tc := ⟨.hbm, 596, rfl⟩
abbrev main_cst_120 : Ref sig .tc := ⟨.hbm, 597, rfl⟩
abbrev main_v470 : Ref sig .tc := ⟨.hbm, 598, rfl⟩
abbrev main_v471 : Ref sig .tc := ⟨.hbm, 599, rfl⟩
abbrev main_v472 : Ref sig .tc := ⟨.hbm, 600, rfl⟩
abbrev main_cst_121 : Ref sig .tc := ⟨.hbm, 601, rfl⟩
abbrev main_v473 : Ref sig .tc := ⟨.hbm, 602, rfl⟩
abbrev main_v474 : Ref sig .tc := ⟨.hbm, 603, rfl⟩
abbrev main_cst_122 : Ref sig .tc := ⟨.hbm, 604, rfl⟩
abbrev main_v475 : Ref sig .tc := ⟨.hbm, 605, rfl⟩
abbrev main_v476 : Ref sig .tc := ⟨.hbm, 606, rfl⟩
abbrev main_v477 : Ref sig .tc := ⟨.hbm, 607, rfl⟩
abbrev main_v478 : Ref sig .tc := ⟨.hbm, 608, rfl⟩
abbrev main_v479 : Ref sig .tc := ⟨.hbm, 609, rfl⟩
abbrev main_v480 : Ref sig .tc := ⟨.hbm, 610, rfl⟩
abbrev main_cst_123 : Ref sig .tc := ⟨.hbm, 611, rfl⟩
abbrev main_v481 : Ref sig .tc := ⟨.hbm, 612, rfl⟩
abbrev main_v482 : Ref sig .tc := ⟨.hbm, 613, rfl⟩
abbrev main_v483 : Ref sig .tc := ⟨.hbm, 614, rfl⟩
abbrev main_cst_124 : Ref sig .tc := ⟨.hbm, 615, rfl⟩
abbrev main_v484 : Ref sig .tc := ⟨.hbm, 616, rfl⟩
abbrev main_v485 : Ref sig .tc := ⟨.hbm, 617, rfl⟩
abbrev main_cst_125 : Ref sig .tc := ⟨.hbm, 618, rfl⟩
abbrev main_v486 : Ref sig .tc := ⟨.hbm, 619, rfl⟩
abbrev main_v487 : Ref sig .tc := ⟨.hbm, 620, rfl⟩
abbrev main_cst_126 : Ref sig .tc := ⟨.hbm, 621, rfl⟩
abbrev main_v488 : Ref sig .tc := ⟨.hbm, 622, rfl⟩
abbrev main_v489 : Ref sig .tc := ⟨.hbm, 623, rfl⟩
abbrev main_cst_127 : Ref sig .tc := ⟨.hbm, 624, rfl⟩
abbrev main_v490 : Ref sig .tc := ⟨.hbm, 625, rfl⟩
abbrev main_v491 : Ref sig .tc := ⟨.hbm, 626, rfl⟩
abbrev main_cst_128 : Ref sig .tc := ⟨.hbm, 627, rfl⟩
abbrev main_v492 : Ref sig .tc := ⟨.hbm, 628, rfl⟩
abbrev main_v493 : Ref sig .tc := ⟨.hbm, 629, rfl⟩
abbrev main_v494 : Ref sig .tc := ⟨.hbm, 630, rfl⟩
abbrev main_cst_129 : Ref sig .tc := ⟨.hbm, 631, rfl⟩
abbrev main_v495 : Ref sig .tc := ⟨.hbm, 632, rfl⟩
abbrev main_v496 : Ref sig .tc := ⟨.hbm, 633, rfl⟩
abbrev main_v497 : Ref sig .tc := ⟨.hbm, 634, rfl⟩
abbrev main_cst_130 : Ref sig .tc := ⟨.hbm, 635, rfl⟩
abbrev main_v498 : Ref sig .tc := ⟨.hbm, 636, rfl⟩
abbrev main_v499 : Ref sig .tc := ⟨.hbm, 637, rfl⟩
abbrev main_v500 : Ref sig .tc := ⟨.hbm, 638, rfl⟩
abbrev main_cst_131 : Ref sig .tc := ⟨.hbm, 639, rfl⟩
abbrev main_v501 : Ref sig .tc := ⟨.hbm, 640, rfl⟩
abbrev main_v502 : Ref sig .tc := ⟨.hbm, 641, rfl⟩
abbrev main_v503 : Ref sig .tc := ⟨.hbm, 642, rfl⟩
abbrev main_cst_132 : Ref sig .tc := ⟨.hbm, 643, rfl⟩
abbrev main_v504 : Ref sig .tc := ⟨.hbm, 644, rfl⟩
abbrev main_v505 : Ref sig .tc := ⟨.hbm, 645, rfl⟩
abbrev main_v506 : Ref sig .tc := ⟨.hbm, 646, rfl⟩
abbrev main_cst_133 : Ref sig .tc := ⟨.hbm, 647, rfl⟩
abbrev main_v507 : Ref sig .tc := ⟨.hbm, 648, rfl⟩
abbrev main_v508 : Ref sig .tc := ⟨.hbm, 649, rfl⟩
abbrev main_v509 : Ref sig .tc := ⟨.hbm, 650, rfl⟩
abbrev main_cst_134 : Ref sig .tc := ⟨.hbm, 651, rfl⟩
abbrev main_v510 : Ref sig .tc := ⟨.hbm, 652, rfl⟩
abbrev main_v511 : Ref sig .tc := ⟨.hbm, 653, rfl⟩
abbrev main_v512 : Ref sig .tc := ⟨.hbm, 654, rfl⟩
abbrev main_cst_135 : Ref sig .tc := ⟨.hbm, 655, rfl⟩
abbrev main_v513 : Ref sig .tc := ⟨.hbm, 656, rfl⟩
abbrev main_v514 : Ref sig .tc := ⟨.hbm, 657, rfl⟩
abbrev main_v515 : Ref sig .tc := ⟨.hbm, 658, rfl⟩
abbrev main_cst_136 : Ref sig .tc := ⟨.hbm, 659, rfl⟩
abbrev main_v516 : Ref sig .tc := ⟨.hbm, 660, rfl⟩
abbrev main_v517 : Ref sig .tc := ⟨.hbm, 661, rfl⟩
abbrev main_cst_137 : Ref sig .tc := ⟨.hbm, 662, rfl⟩
abbrev main_v518 : Ref sig .tc := ⟨.hbm, 663, rfl⟩
abbrev main_v519 : Ref sig .tc := ⟨.hbm, 664, rfl⟩
abbrev main_v520 : Ref sig .tc := ⟨.hbm, 665, rfl⟩
abbrev main_v521 : Ref sig .tc := ⟨.hbm, 666, rfl⟩
abbrev main_cst_138 : Ref sig .tc := ⟨.hbm, 667, rfl⟩
abbrev main_v522 : Ref sig .tc := ⟨.hbm, 668, rfl⟩
abbrev main_v523 : Ref sig .tc := ⟨.hbm, 669, rfl⟩
abbrev main_v524 : Ref sig .tc := ⟨.hbm, 670, rfl⟩
abbrev main_v525 : Ref sig .tc := ⟨.hbm, 671, rfl⟩
abbrev main_v526 : Ref sig .tc := ⟨.hbm, 672, rfl⟩
abbrev main_v527 : Ref sig .tc := ⟨.hbm, 673, rfl⟩
abbrev main_v528 : Ref sig .tc := ⟨.hbm, 674, rfl⟩
abbrev main_v529 : Ref sig .tc := ⟨.hbm, 675, rfl⟩
abbrev main_v530 : Ref sig .tc := ⟨.hbm, 676, rfl⟩
abbrev main_v531 : Ref sig .tc := ⟨.hbm, 677, rfl⟩
abbrev main_v532 : Ref sig .tc := ⟨.hbm, 678, rfl⟩
abbrev main_v533 : Ref sig .tc := ⟨.hbm, 679, rfl⟩
abbrev main_v534 : Ref sig .tc := ⟨.hbm, 680, rfl⟩
abbrev main_v535 : Ref sig .tc := ⟨.hbm, 681, rfl⟩
abbrev main_v536 : Ref sig .tc := ⟨.hbm, 682, rfl⟩
abbrev main_cst_139 : Ref sig .tc := ⟨.hbm, 683, rfl⟩
abbrev main_v537 : Ref sig .tc := ⟨.hbm, 684, rfl⟩
abbrev main_v538 : Ref sig .tc := ⟨.hbm, 685, rfl⟩
abbrev main_cst_140 : Ref sig .tc := ⟨.hbm, 686, rfl⟩
abbrev main_v539 : Ref sig .tc := ⟨.hbm, 687, rfl⟩
abbrev main_v540 : Ref sig .tc := ⟨.hbm, 688, rfl⟩
abbrev main_cst_141 : Ref sig .tc := ⟨.hbm, 689, rfl⟩
abbrev main_v541 : Ref sig .tc := ⟨.hbm, 690, rfl⟩
abbrev main_v542 : Ref sig .tc := ⟨.hbm, 691, rfl⟩
abbrev main_cst_142 : Ref sig .tc := ⟨.hbm, 692, rfl⟩
abbrev main_v543 : Ref sig .tc := ⟨.hbm, 693, rfl⟩
abbrev main_v544 : Ref sig .tc := ⟨.hbm, 694, rfl⟩
abbrev main_v545 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_cst_143 : Ref sig .tc := ⟨.hbm, 700, rfl⟩
abbrev main_v550 : Ref sig .tc := ⟨.hbm, 701, rfl⟩
abbrev main_v551 : Ref sig .tc := ⟨.hbm, 702, rfl⟩
abbrev main_v552 : Ref sig .tc := ⟨.hbm, 703, rfl⟩
abbrev main_v553 : Ref sig .tc := ⟨.hbm, 704, rfl⟩
abbrev main_v554 : Ref sig .tc := ⟨.hbm, 705, rfl⟩
abbrev main_v555 : Ref sig .tc := ⟨.hbm, 706, rfl⟩
abbrev main_v556 : Ref sig .tc := ⟨.hbm, 707, rfl⟩
abbrev main_v557 : Ref sig .tc := ⟨.hbm, 708, rfl⟩
abbrev main_v558 : Ref sig .tc := ⟨.hbm, 709, rfl⟩
abbrev main_v559 : Ref sig .tc := ⟨.hbm, 710, rfl⟩
abbrev main_cst_144 : Ref sig .tc := ⟨.hbm, 711, rfl⟩
abbrev main_v560 : Ref sig .tc := ⟨.hbm, 712, rfl⟩
abbrev main_v561 : Ref sig .tc := ⟨.hbm, 713, rfl⟩
abbrev main_cst_145 : Ref sig .tc := ⟨.hbm, 714, rfl⟩
abbrev main_v562 : Ref sig .tc := ⟨.hbm, 715, rfl⟩
abbrev main_v563 : Ref sig .tc := ⟨.hbm, 716, rfl⟩
abbrev main_cst_146 : Ref sig .tc := ⟨.hbm, 717, rfl⟩
abbrev main_v564 : Ref sig .tc := ⟨.hbm, 718, rfl⟩
abbrev main_v565 : Ref sig .tc := ⟨.hbm, 719, rfl⟩
abbrev main_cst_147 : Ref sig .tc := ⟨.hbm, 720, rfl⟩
abbrev main_v566 : Ref sig .tc := ⟨.hbm, 721, rfl⟩
abbrev main_v567 : Ref sig .tc := ⟨.hbm, 722, rfl⟩
abbrev main_v568 : Ref sig .tc := ⟨.hbm, 723, rfl⟩
abbrev main_v569 : Ref sig .tc := ⟨.hbm, 724, rfl⟩
abbrev main_v570 : Ref sig .tc := ⟨.hbm, 725, rfl⟩
abbrev main_v571 : Ref sig .tc := ⟨.hbm, 726, rfl⟩
abbrev main_cst_148 : Ref sig .tc := ⟨.hbm, 727, rfl⟩
abbrev main_v572 : Ref sig .tc := ⟨.hbm, 728, rfl⟩
abbrev main_v573 : Ref sig .tc := ⟨.hbm, 729, rfl⟩
abbrev main_v574 : Ref sig .tc := ⟨.hbm, 730, rfl⟩
abbrev main_v575 : Ref sig .tc := ⟨.hbm, 731, rfl⟩
abbrev main_v576 : Ref sig .tc := ⟨.hbm, 732, rfl⟩
abbrev main_cst_149 : Ref sig .tc := ⟨.hbm, 733, rfl⟩
abbrev main_v577 : Ref sig .tc := ⟨.hbm, 734, rfl⟩
abbrev main_v578 : Ref sig .tc := ⟨.hbm, 735, rfl⟩
abbrev main_cst_150 : Ref sig .tc := ⟨.hbm, 736, rfl⟩
abbrev main_v579 : Ref sig .tc := ⟨.hbm, 737, rfl⟩
abbrev main_v580 : Ref sig .tc := ⟨.hbm, 738, rfl⟩
abbrev main_c_151 : Ref sig .tc := ⟨.hbm, 739, rfl⟩
abbrev main_v581 : Ref sig .tc := ⟨.hbm, 740, rfl⟩
abbrev main_v582 : Ref sig .tc := ⟨.hbm, 741, rfl⟩
abbrev main_c_152 : Ref sig .tc := ⟨.hbm, 742, rfl⟩
abbrev main_v583 : Ref sig .tc := ⟨.hbm, 743, rfl⟩
abbrev main_v584 : Ref sig .tc := ⟨.hbm, 744, rfl⟩
abbrev main_v585 : Ref sig .tc := ⟨.hbm, 745, rfl⟩
abbrev main_v586 : Ref sig .tc := ⟨.hbm, 746, rfl⟩
abbrev main_v587 : Ref sig .tc := ⟨.hbm, 747, rfl⟩
abbrev main_v588 : Ref sig .tc := ⟨.hbm, 748, rfl⟩
abbrev main_v589 : Ref sig .tc := ⟨.hbm, 749, rfl⟩
abbrev main_call1_v0 : Ref sig .tc := ⟨.hbm, 750, rfl⟩
abbrev main_call1_v1_0 : Ref sig .tc := ⟨.hbm, 751, rfl⟩
abbrev main_v590 : Ref sig .tc := ⟨.hbm, 752, rfl⟩
abbrev main_c_153 : Ref sig .tc := ⟨.hbm, 753, rfl⟩
abbrev main_v591 : Ref sig .tc := ⟨.hbm, 754, rfl⟩
abbrev main_v592 : Ref sig .tc := ⟨.hbm, 755, rfl⟩
abbrev main_c_154 : Ref sig .tc := ⟨.hbm, 756, rfl⟩
abbrev main_v593 : Ref sig .tc := ⟨.hbm, 757, rfl⟩
abbrev main_v594 : Ref sig .tc := ⟨.hbm, 758, rfl⟩
abbrev main_v595 : Ref sig .tc := ⟨.hbm, 759, rfl⟩
abbrev main_v596 : Ref sig .tc := ⟨.hbm, 760, rfl⟩
abbrev main_v597 : Ref sig .tc := ⟨.hbm, 761, rfl⟩

abbrev nD : Nat := 1
abbrev τ : Topo := Topo.v7x

variable {F : FTy → Type} [FloatOps F]
-- ==== Proof.Words.lean ====
module

public import proofs.«01_k».proof.Proof.Gen.KernelIdeal
public import Idealize.ShloMosaic.Lib.Pointwise

@[expose] public section

noncomputable section

/-! The kernel's counter hash and its noise on one chunk of eight coordinates, as functions of whole vectors, and the
    equations that gather the printed operations into them. -/

namespace Cert.Words

open Cert.KernelIdeal Cert.KernelIdeal.Gen Idealize.ShloMosaic

/-- One 32-bit word per coordinate of the chunk, row and column. -/
abbrev Wd := IVec S8x8x128 32

/-- Every word of the chunk the same. -/
abbrev all (k : BitVec 32) : Wd := broadcast S8x8x128 k

/-- The rotation by `r` to the left; `s` is `32 - r`. -/
def rot (r s : BitVec 32) (x : Wd) : Wd := ori (shli x (all r)) (shrui x (all s))

/-- The first word of a pair after a round: the sum of the two. -/
def mix (st : Wd × Wd) : Wd := addi st.1 st.2

/-- One round of the hash. -/
def rnd (r s : BitVec 32) (st : Wd × Wd) : Wd × Wd := (mix st, xori (rot r s st.2) (mix st))

/-- Key words added to both words. -/
def inj (k j : BitVec 32) (st : Wd × Wd) : Wd × Wd := (addi st.1 (all k), addi st.2 (all j))

/-- The pair the rounds start from, at counters `(0, x)`. -/
def start (k0 k1 : BitVec 32) (x : Wd) : Wd × Wd := (all k0, addi x (all k1))

/-- The two shifts combined are the rotation. -/
theorem rot_fold (r s : BitVec 32) (x : Wd) : ori (shli x (all r)) (shrui x (all s)) = rot r s x := rfl

/-- The sum of the two starting words, as the kernel adds them. -/
theorem start_mix (k0 k1 b : BitVec 32) (x : Wd) :
    addi (addi (addi x (all b)) (all k1)) (all k0) = mix (start k0 k1 (addi x (all b))) := by
  funext i; exact BitVec.add_comm _ _

/-- The second word after the first round. -/
theorem start_rnd (k0 k1 r s b : BitVec 32) (x : Wd) :
    xori (rot r s (addi (addi x (all b)) (all k1))) (mix (start k0 k1 (addi x (all b))))
      = (rnd r s (start k0 k1 (addi x (all b)))).2 := rfl

/-- The sum of the two words after a round. -/
theorem rnd_mix (r s : BitVec 32) (st : Wd × Wd) : addi (mix st) (rnd r s st).2 = mix (rnd r s st) := rfl

/-- The second word after a round that follows a round. -/
theorem rnd_rnd (r s r' s' : BitVec 32) (st : Wd × Wd) :
    xori (rot r s (rnd r' s' st).2) (mix (rnd r' s' st)) = (rnd r s (rnd r' s' st)).2 := rfl

/-- The sum of the two words after key words have been added. -/
theorem inj_mix (r s k j : BitVec 32) (st : Wd × Wd) :
    addi (addi (mix st) (all k)) (addi (rnd r s st).2 (all j)) = mix (inj k j (rnd r s st)) := rfl

/-- The second word after a round that follows the addition of key words. -/
theorem inj_rnd (r s r' s' k j : BitVec 32) (st : Wd × Wd) :
    xori (rot r s (addi (rnd r' s' st).2 (all j))) (mix (inj k j (rnd r' s' st)))
      = (rnd r s (inj k j (rnd r' s' st))).2 := rfl

/-- The two words of a pair combined. -/
def both (st : Wd × Wd) : Wd := xori st.1 st.2

/-- The two words combined, after the last addition of key words. -/
theorem inj_both (r s k j : BitVec 32) (st : Wd × Wd) :
    xori (addi (mix st) (all k)) (addi (rnd r s st).2 (all j)) = both (inj k j (rnd r s st)) := rfl

/-- Four rounds with the rotations 13, 15, 26, 6. -/
def four (st : Wd × Wd) : Wd × Wd := rnd 6#32 26#32 (rnd 26#32 6#32 (rnd 15#32 17#32 (rnd 13#32 19#32 st)))

/-- Four rounds with the rotations 17, 29, 16, 24. -/
def four' (st : Wd × Wd) : Wd × Wd := rnd 24#32 8#32 (rnd 16#32 16#32 (rnd 29#32 3#32 (rnd 17#32 15#32 st)))

/-- The noise's bits at counters `(0, x)`, under the key words `k0`, `k1`, `k2`. -/
def hash (k0 k1 k2 : BitVec 32) (x : Wd) : Wd :=
  both (inj k2 (Scalar.addi k0 5#32) (four (inj k1 (Scalar.addi k2 4#32) (four' (inj k0 (Scalar.addi k1 3#32) (four
    (inj k2 (Scalar.addi k0 2#32) (four' (inj k1 (Scalar.addi k2 1#32) (four (start k0 k1 x)))))))))))

/-- The twenty rounds and their five additions of key words are `hash`. -/
theorem hash_fold (k0 k1 k2 : BitVec 32) (x : Wd) :
    both (inj k2 (Scalar.addi k0 5#32) (rnd 6#32 26#32 (rnd 26#32 6#32 (rnd 15#32 17#32 (rnd 13#32 19#32
    (inj k1 (Scalar.addi k2 4#32) (rnd 24#32 8#32 (rnd 16#32 16#32 (rnd 29#32 3#32 (rnd 17#32 15#32
    (inj k0 (Scalar.addi k1 3#32) (rnd 6#32 26#32 (rnd 26#32 6#32 (rnd 15#32 17#32 (rnd 13#32 19#32
    (inj k2 (Scalar.addi k0 2#32) (rnd 24#32 8#32 (rnd 16#32 16#32 (rnd 29#32 3#32 (rnd 17#32 15#32
    (inj k1 (Scalar.addi k2 1#32) (rnd 6#32 26#32 (rnd 26#32 6#32 (rnd 15#32 17#32 (rnd 13#32 19#32
      (start k0 k1 x)))))))))))))))))))))))))) = hash k0 k1 k2 x := rfl

variable {F : FTy → Type} [FloatOps F] [Named F]

/-- Every float of the chunk the same. -/
abbrev allF (b : BitVec 32) : FVec F S8x8x128 .f32 := broadcast S8x8x128 (FloatOps.ofBits .f32 b)

/-- The uniform number a word of bits stands for. -/
def unif (b : Wd) : FVec F S8x8x128 .f32 :=
  addf (mulf (bitcastToFloat .f32 (ori (shrui b (all 9#32)) (all 0x3F800000#32)))
    (broadcast S8x8x128 (Named.named κ "scale" 0x40000000#32))) (broadcast S8x8x128 (Named.named κ "off" 0xC0400000#32))

/-- Minus the logarithm of one less the square. -/
def tailW (u : FVec F S8x8x128 .f32) : FVec F S8x8x128 .f32 :=
  subf (allF 0x00000000#32) (log (subf (allF 0x3F800000#32) (mulf u u)))

/-- The polynomial's argument. -/
def polyArg (w : FVec F S8x8x128 .f32) : FVec F S8x8x128 .f32 :=
  select (cmpf .olt w (allF 0x40A00000#32)) (subf w (allF 0x40200000#32)) (subf (sqrt w) (allF 0x40400000#32))

/-- A coefficient of the polynomial: `a` in the centre, `b` in the tail. -/
def coef (w : FVec F S8x8x128 .f32) (a b : BitVec 32) : FVec F S8x8x128 .f32 :=
  select (cmpf .olt w (allF 0x40A00000#32)) (allF a) (allF b)

/-- One step of Horner's scheme. -/
def horner (w : FVec F S8x8x128 .f32) (a b : BitVec 32) (p : FVec F S8x8x128 .f32) : FVec F S8x8x128 .f32 :=
  addf (coef w a b) (mulf p (polyArg w))

/-- The inverse error function's polynomial. -/
def poly (w : FVec F S8x8x128 .f32) : FVec F S8x8x128 .f32 :=
  horner w 0x3FC02D9F#32 0x40354F9D#32 (horner w 0x3E7C912E#32 0x3F8038DA#32 (horner w 0xBB86FDB3#32 0x3C16FD89#32
    (horner w 0xBAA59E68#32 0xBC053563#32 (horner w 0x394766BE#32 0x3BDE413C#32 (coef w 0xB578808E#32 0xBB3A31BE#32)))))

/-- The inverse error function of the chunk's uniform numbers. -/
def noise (b : Wd) : FVec F S8x8x128 .f32 := mulf (poly (tailW (unif b))) (unif (F := F) b)

/-- The printed operations of the uniform number are `unif`. -/
theorem unif_fold (b : Wd) :
    addf (mulf (bitcastToFloat .f32 (ori (shrui b (all 9#32)) (all 0x3F800000#32)))
      (broadcast S8x8x128 (Named.named κ "scale" 0x40000000#32))) (broadcast S8x8x128 (Named.named κ "off" 0xC0400000#32))
      = unif (F := F) b := rfl

/-- The printed operations of minus the logarithm are `tailW`. -/
theorem tailW_fold (u : FVec F S8x8x128 .f32) :
    subf (allF 0x00000000#32) (log (subf (allF 0x3F800000#32) (mulf u u))) = tailW u := rfl

/-- The printed operations of the polynomial's argument are `polyArg`. -/
theorem polyArg_fold (w : FVec F S8x8x128 .f32) :
    select (cmpf .olt w (allF 0x40A00000#32)) (subf w (allF 0x40200000#32)) (subf (sqrt w) (allF 0x40400000#32))
      = polyArg w := rfl

/-- The printed choice of a coefficient is `coef`. -/
theorem coef_fold (w : FVec F S8x8x128 .f32) (a b : BitVec 32) :
    select (cmpf .olt w (allF 0x40A00000#32)) (allF a) (allF b) = coef w a b := rfl

/-- A product and a sum are a step of Horner's scheme. -/
theorem horner_fold (w p : FVec F S8x8x128 .f32) (a b : BitVec 32) :
    addf (coef w a b) (mulf p (polyArg w)) = horner w a b p := rfl

/-- The five steps are `poly`. -/
theorem poly_fold (w : FVec F S8x8x128 .f32) :
    horner w 0x3FC02D9F#32 0x40354F9D#32 (horner w 0x3E7C912E#32 0x3F8038DA#32 (horner w 0xBB86FDB3#32 0x3C16FD89#32
    (horner w 0xBAA59E68#32 0xBC053563#32 (horner w 0x394766BE#32 0x3BDE413C#32 (coef w 0xB578808E#32 0xBB3A31BE#32)))))
      = poly w := rfl

/-- The polynomial times the uniform number is `noise`. -/
theorem noise_fold (b : Wd) : mulf (poly (tailW (unif b))) (unif (F := F) b) = noise b := rfl

/-- Coordinate `d`'s plane of the chunk. -/
def plane (d : ℕ) (n : FVec F S8x8x128 .f32) : FVec F S8x128 .f32 := fun j => n (ix3 (Fin.ofNat 8 d) (j 0) (j 1))

/-- A plane cut out of the chunk is `plane`. -/
theorem plane_fold (d : ℕ) (n : FVec F S8x8x128 .f32) (h : S8x8x128.Slices ![d, 0, 0] S1x8x128)
    (h' : S1x8x128.ShapeCasts S8x128) :
    shapeCast S8x128 (extractStridedSlice S1x8x128 ![d, 0, 0] n h) h' = plane d n := by
  have hd : d < 8 := by have := h.2 0; simp [S8x8x128, S1x8x128] at this; omega
  funext j
  refine (shapeCast_dropUnit_apply (![8, 128]) _ h' j).trans ?_
  unfold extractStridedSlice plane
  congr 1
  funext a
  fin_cases a
  · exact Fin.ext (by simp [Fin.ofNat, Nat.mod_eq_of_lt hd, ix3]; rfl)
  · exact Fin.ext (by simp [ix3]; rfl)
  · exact Fin.ext (by simp [ix3]; rfl)

/-- Column `d` of the queries' means, along the rows. -/
def colB (d : ℕ) (x : FVec F S8x32 .f32) : FVec F S8x128 .f32 := fun j => x (ix2 (j 0) (Fin.ofNat 32 d))

/-- Row `d` of the prototypes' means, along the columns. -/
def rowB (d : ℕ) (x : FVec F S32x128 .f32) : FVec F S8x128 .f32 := fun j => x (ix2 (Fin.ofNat 32 d) (j 1))

/-- A column of the queries' means repeated along the columns is `colB`. -/
theorem colB_fold (d : ℕ) (x : FVec F S8x32 .f32) (h : S8x32.Slices ![0, d] S8x1) (h' : S8x1.Broadcasts S8x128) :
    broadcastTo S8x128 (extractStridedSlice S8x1 ![0, d] x h) h' = colB d x := by
  have hd : d < 32 := by have := h.2 1; simp [S8x32, S8x1] at this; omega
  funext j
  refine congrArg x (funext fun a => ?_)
  fin_cases a
  · exact Fin.ext (by simp [extractStridedSlice, ix2, S8x1])
  · exact Fin.ext (by simp [extractStridedSlice, ix2, Fin.ofNat, Nat.mod_eq_of_lt hd, S8x1])

/-- A row of the prototypes' means repeated down the rows is `rowB`. -/
theorem rowB_fold (d : ℕ) (x : FVec F S32x128 .f32) (h : S32x128.Slices ![d, 0] S1x128) (h' : S1x128.Broadcasts S8x128) :
    broadcastTo S8x128 (extractStridedSlice S1x128 ![d, 0] x h) h' = rowB d x := by
  have hd : d < 32 := by have := h.2 0; simp [S32x128, S1x128] at this; omega
  funext j
  refine congrArg x (funext fun a => ?_)
  fin_cases a
  · exact Fin.ext (by simp [extractStridedSlice, ix2, Fin.ofNat, Nat.mod_eq_of_lt hd, S1x128])
  · exact Fin.ext (by simp [extractStridedSlice, ix2, S1x128])

/-- The square of `x` added to `a`. -/
def sqA (a x : FVec F S8x128 .f32) : FVec F S8x128 .f32 := addf a (mulf x x)

/-- A sum with a square is `sqA`. -/
theorem sqA_fold (a x : FVec F S8x128 .f32) : addf a (mulf x x) = sqA a x := rfl

/-- Coordinate `d` of a product's mean less the prototype's: queries' means `q`, prototypes' means `m`, the variances `v`
    and `w` of the one and the other along the whole block, and `r` one over their sum. -/
def delta (d : ℕ) (q : FVec F S8x32 .f32) (m : FVec F S32x128 .f32) (v w r : FVec F S8x128 .f32) : FVec F S8x128 .f32 :=
  subf (mulf (addf (mulf (colB d q) w) (mulf (rowB d m) v)) r) (rowB d m)

/-- The printed operations of the product's mean less the prototype's are `delta`. -/
theorem delta_fold (d : ℕ) (q : FVec F S8x32 .f32) (m : FVec F S32x128 .f32) (v w r : FVec F S8x128 .f32) :
    subf (mulf (addf (mulf (colB d q) w) (mulf (rowB d m) v)) r) (rowB d m) = delta d q m v w r := rfl

/-- A sample's distance from the prototype: the means' and `s` times the noise. -/
def draw (x s n : FVec F S8x128 .f32) : FVec F S8x128 .f32 := addf x (mulf s n)

/-- A sum with a multiple of the noise is `draw`. -/
theorem draw_fold (d e : ℕ) (q : FVec F S8x32 .f32) (m : FVec F S32x128 .f32) (v w r s : FVec F S8x128 .f32)
    (n : FVec F S8x8x128 .f32) : addf (delta d q m v w r) (mulf s (plane e n)) = draw (delta d q m v w r) s (plane e n) := rfl

/-- Squares added up, one block after the other. -/
def squares (x : ℕ → FVec F S8x128 .f32) : ℕ → FVec F S8x128 .f32
  | 0 => broadcast S8x128 (FloatOps.ofBits .f32 0x00000000#32)
  | n + 1 => sqA (squares x n) (x n)

/-- A sample's logarithmic density: the constants' row `c`, the squares `s`, the variances' row `v`. -/
def dens (c : FVec F S1x128 .f32) (s v : FVec F S8x128 .f32) : FVec F S8x128 .f32 :=
  subf (broadcastTo S8x128 c broadcasts_S1x128_S8x128) (divf (mulf (broadcast S8x128 (FloatOps.ofBits .f32 0x3F000000#32)) s) v)

/-- The printed operations of the density are `dens`. -/
theorem dens_fold (c : FVec F S1x128 .f32) (s v : FVec F S8x128 .f32) (h : S1x128.Broadcasts S8x128) :
    subf (broadcastTo S8x128 c h) (divf (mulf (broadcast S8x128 (FloatOps.ofBits .f32 0x3F000000#32)) s) v) = dens c s v := rfl

/-- Each row's largest entry. -/
def rowMax (x : FVec F S8x128 .f32) : FVec F S8x1 .f32 :=
  shapeCast S8x1 (multiReduction .maximumf [1] S8 x 0xFF800000#32 reduces_S8x128_S8) shapeCasts_S8_S8x1

/-- Each row's sum. -/
def rowSum (x : FVec F S8x128 .f32) : FVec F S8x1 .f32 :=
  shapeCast S8x1 (multiReduction .add [1] S8 x 0x00000000#32 reduces_S8x128_S8) shapeCasts_S8_S8x1

/-- Minus the logarithm of each row's sum of exponentials, the row's largest entry taken out first. -/
def negLse (x : FVec F S8x128 .f32) : FVec F S8x1 .f32 :=
  subf (broadcast S8x1 (FloatOps.ofBits .f32 0x00000000#32)) (addf (log (rowSum (exp (subf x
    (broadcastTo S8x128 (rowMax x) broadcasts_S8x1_S8x128))))) (rowMax x))

/-- The running sum of exponentials after one more entry `y`, from the largest entry `m` and the sum `s` so far. -/
def sumStep (m s y : FVec F S8x1 .f32) : FVec F S8x1 .f32 :=
  addf (mulf s (exp (subf m (maximumf m y)))) (exp (subf y (maximumf m y)))

/-- The printed operations of the running sum are `sumStep`. -/
theorem sumStep_fold (m s y : FVec F S8x1 .f32) :
    addf (mulf s (exp (subf m (maximumf m y)))) (exp (subf y (maximumf m y))) = sumStep m s y := rfl

/-- The largest of the entries so far. -/
def runMax (y : ℕ → FVec F S8x1 .f32) : ℕ → FVec F S8x1 .f32
  | 0 => broadcast S8x1 (FloatOps.ofBits .f32 0xF149F2CA#32)
  | n + 1 => maximumf (runMax y n) (y n)

/-- The sum of the exponentials of the entries so far less the largest of them. -/
def runSum (y : ℕ → FVec F S8x1 .f32) : ℕ → FVec F S8x1 .f32
  | 0 => broadcast S8x1 (FloatOps.ofBits .f32 0x00000000#32)
  | n + 1 => sumStep (runMax y n) (runSum y n) (y n)

/-! ## One block of eight rows -/

section Block

variable (q : FVec F S8x32 .f32) (h : FVec F S8x1 .f32) (m : FVec F S32x128 .f32) (v c : FVec F S1x128 .f32)
  (k0 k1 k2 : BitVec 32) (cc : Wd) (b : BitVec 32)

/-- The prototypes' variances along the block. -/
def protoVar : FVec F S8x128 .f32 := broadcastTo S8x128 v broadcasts_S1x128_S8x128

/-- The queries' variances along the block. -/
def queryVar : FVec F S8x128 .f32 := broadcastTo S8x128 (exp h) broadcasts_S8x1_S8x128

/-- The two variances' sum. -/
def bothVar : FVec F S8x128 .f32 := addf (queryVar h) (protoVar v)

/-- One over it. -/
def recipVar : FVec F S8x128 .f32 := divf (broadcast S8x128 (FloatOps.ofBits .f32 0x3F800000#32)) (bothVar h v)

/-- The noise's factor: the root of two times the product's variance. -/
def spread : FVec F S8x128 .f32 :=
  mulf (broadcast S8x128 (FloatOps.ofBits .f32 0x3FB504F3#32)) (sqrt (mulf (mulf (queryVar h) (protoVar v)) (recipVar h v)))

/-- The logarithms of the products' masses. -/
def mass : FVec F S8x128 .f32 :=
  subf (subf (broadcast S8x128 (FloatOps.ofBits .f32 0xC1EB3F8E#32))
      (mulf (broadcast S8x128 (FloatOps.ofBits .f32 0x41800000#32)) (log (bothVar h v))))
    (mulf (mulf (broadcast S8x128 (FloatOps.ofBits .f32 0x3F000000#32)) (squares (fun d => subf (colB d q) (rowB d m)) 32))
      (recipVar h v))

/-- Sample `s`'s coordinate `d`, less the prototype's. -/
def sample (s d : ℕ) : FVec F S8x128 .f32 :=
  draw (delta d q m (queryVar h) (protoVar v) (recipVar h v)) (spread h v) (plane (d % 8) (noise (hash k0 k1 k2 (addi cc
    (all (Scalar.addi (Scalar.addi b (BitVec.ofNat 32 (s * 4096))) (BitVec.ofNat 32 (d / 8 * 8))))))))

/-- Minus the logarithm of sample `s`'s density under all prototypes together. -/
def sampleLse (s : ℕ) : FVec F S8x1 .f32 :=
  negLse (dens c (squares (sample q h m v k0 k1 k2 cc b s) 32) (protoVar v))

/-- The block's results. -/
def block : FVec F S8x128 .f32 :=
  addf (mass q h m v) (broadcastTo S8x128 (subf (addf (log (runSum (sampleLse q h m v c k0 k1 k2 cc b) 8))
    (runMax (sampleLse q h m v c k0 k1 k2 cc b) 8)) (broadcast S8x1 (FloatOps.ofBits .f32 0x40051592#32))) broadcasts_S8x1_S8x128)

end Block

end Cert.Words

end
-- ==== Proof.Target.lean ====
module

public import Idealize.ShloMosaic.PureOps.Ideal.Laws
public import Idealize.ShloMosaic.Lib.Pointwise

@[expose] public section

noncomputable section

/-! The results as the problem states them over the extended reals, and the arithmetic of the numbers in them. -/

namespace Cert.Target

open Idealize.ShloMosaic

/-! ## The hash of a counter -/

/-- A pair of words. -/
abbrev Pair := BitVec 32 × BitVec 32

/-- The rotation by `r` to the left; `s` is `32 - r`. -/
def rot (r s x : BitVec 32) : BitVec 32 := (x <<< r) ||| (x >>> s)

/-- The sum of a pair's words. -/
def mix (st : Pair) : BitVec 32 := st.1 + st.2

/-- One round. -/
def rnd (r s : BitVec 32) (st : Pair) : Pair := (mix st, rot r s st.2 ^^^ mix st)

/-- Key words and a round number added to a pair. -/
def inj (k j n : BitVec 32) (st : Pair) : Pair := (st.1 + k, st.2 + j + n)

/-- The counters `(0, x)` under the first two key words. -/
def start (k0 k1 x : BitVec 32) : Pair := (0#32 + k0, x + k1)

/-- Four rounds with the rotations 13, 15, 26, 6. -/
def four (st : Pair) : Pair := rnd 6#32 26#32 (rnd 26#32 6#32 (rnd 15#32 17#32 (rnd 13#32 19#32 st)))

/-- Four rounds with the rotations 17, 29, 16, 24. -/
def four' (st : Pair) : Pair := rnd 24#32 8#32 (rnd 16#32 16#32 (rnd 29#32 3#32 (rnd 17#32 15#32 st)))

/-- The hash of the counters `(0, x)`: twenty rounds under the key words `k0`, `k1`, `k2`. -/
def hash (k0 k1 k2 x : BitVec 32) : Pair :=
  inj k2 k0 5#32 (four (inj k1 k2 4#32 (four' (inj k0 k1 3#32 (four (inj k2 k0 2#32 (four' (inj k1 k2 1#32
    (four (start k0 k1 x))))))))))

/-- The hash's two words combined. -/
def bits (k0 k1 k2 x : BitVec 32) : BitVec 32 := (hash k0 k1 k2 x).1 ^^^ (hash k0 k1 k2 x).2

/-! ## Numbers -/

/-- The real number a finite 32-bit pattern stands for. -/
def num (b : BitVec 32) : ℝ := (Ideal.ofBits .f32 b).toReal

/-- A finite pattern stands for the real number `num`. -/
theorem num_coe (b : BitVec 32) (h : (b.extractLsb' 23 8).toNat ≠ 255) : Ideal.ofBits .f32 b = ((num b : ℝ) : EReal) := by
  have key : ∃ x : ℝ, Ideal.ofBits .f32 b = (x : EReal) := by
    change ∃ x : ℝ, Ideal.ieee 8 23 b = _
    unfold Ideal.ieee
    dsimp only
    rw [if_neg (by simpa using h)]
    split_ifs <;> exact ⟨_, rfl⟩
  obtain ⟨x, hx⟩ := key
  rw [num, hx, EReal.toReal_coe]

/-- The number in `[1, 2)` that the upper 23 bits of a word stand for. -/
def frac (w : BitVec 32) : ℝ := (8388608 + (w.toNat / 512 : ℕ)) / 8388608

/-- `frac` is at least one. -/
theorem frac_ge (w : BitVec 32) : 1 ≤ frac w := by
  unfold frac
  rw [le_div_iff₀ (by norm_num)]
  have : (0 : ℝ) ≤ (w.toNat / 512 : ℕ) := Nat.cast_nonneg _
  linarith

/-- `frac` is below two. -/
theorem frac_lt (w : BitVec 32) : frac w < 2 := by
  unfold frac
  rw [div_lt_iff₀ (by norm_num)]
  have h : w.toNat / 512 < 8388608 := by have := w.isLt; omega
  have : ((w.toNat / 512 : ℕ) : ℝ) < 8388608 := by exact_mod_cast h
  linarith

/-- The real number of a normal pattern. -/
theorem ofBits_normal (b : BitVec 32) (h : (b.extractLsb' 23 8).toNat ≠ 255) (h' : (b.extractLsb' 23 8).toNat ≠ 0) :
    Ideal.ofBits .f32 b = (((if b.extractLsb' 31 1 == 1#1 then -1 else 1) * (2 ^ 23 + (b.extractLsb' 0 23).toNat : ℕ)
      * (2 : ℝ) ^ (((b.extractLsb' 23 8).toNat : Int) - 127 - 23) : ℝ) : EReal) := by
  change Ideal.ieee 8 23 b = _
  unfold Ideal.ieee
  dsimp only
  rw [if_neg (by simpa using h), if_neg h']
  norm_num

/-- The upper 23 bits of a word, under the exponent of one, stand for `frac`. -/
theorem frac_coe (w : BitVec 32) :
    Ideal.ofBits .f32 ((w >>> 9#32) ||| 0x3F800000#32) = ((frac w : ℝ) : EReal) := by
  have hw : w.toNat / 512 < 2 ^ 23 := by have := w.isLt; omega
  have h : ((w >>> 9#32) ||| 0x3F800000#32).toNat = 2 ^ 23 * 127 + w.toNat / 512 := by
    rw [Nat.two_pow_add_eq_or_of_lt hw, Nat.or_comm]
    simp [Nat.shiftRight_eq_div_pow]
  have h1 : ((w >>> 9#32) ||| 0x3F800000#32).extractLsb' 31 1 = 0#1 := by
    apply BitVec.eq_of_toNat_eq
    rw [BitVec.extractLsb'_toNat, h, Nat.shiftRight_eq_div_pow]
    simp; omega
  have h2 : (((w >>> 9#32) ||| 0x3F800000#32).extractLsb' 23 8).toNat = 127 := by
    rw [BitVec.extractLsb'_toNat, h, Nat.shiftRight_eq_div_pow]
    omega
  have h3 : (((w >>> 9#32) ||| 0x3F800000#32).extractLsb' 0 23).toNat = w.toNat / 512 := by
    rw [BitVec.extractLsb'_toNat, h, Nat.shiftRight_eq_div_pow]
    omega
  rw [ofBits_normal _ (by rw [h2]; decide) (by rw [h2]; decide), h1, h2, h3]
  congr 1
  unfold frac
  push_cast
  norm_num
  ring

/-- The uniform number in `[-1, 1)` of a word of bits. -/
def unif (w : BitVec 32) : ℝ := frac w * (33554431 / 16777216) + -25165823 / 8388608

/-- The uniform number is above -1 by 2^-24 at least. -/
theorem unif_ge (w : BitVec 32) : -16777215 / 16777216 ≤ unif w := by
  have := frac_ge w; unfold unif; linarith

/-- The uniform number is below 1. -/
theorem unif_lt (w : BitVec 32) : unif w < 1 := by
  have := frac_lt w; unfold unif; linarith

/-- The uniform number's square is below one. -/
theorem unif_sq (w : BitVec 32) : 0 < 1 - unif w * unif w := by
  have h1 := unif_ge w
  have h2 := unif_lt w
  nlinarith

/-- Minus the logarithm of one less the square. -/
def tail (w : BitVec 32) : ℝ := -Real.log (1 - unif w * unif w)

/-- `tail` is not negative. -/
theorem tail_nonneg (w : BitVec 32) : 0 ≤ tail w := by
  have h := unif_sq w
  have : Real.log (1 - unif w * unif w) ≤ 0 := Real.log_nonpos h.le (by nlinarith [mul_self_nonneg (unif w)])
  unfold tail; linarith

/-- The polynomial of the centre. -/
def centre (x : ℝ) : ℝ :=
  ((((num 0xB578808E#32 * x + num 0x394766BE#32) * x + num 0xBAA59E68#32) * x + num 0xBB86FDB3#32) * x
    + num 0x3E7C912E#32) * x + num 0x3FC02D9F#32

/-- The polynomial of the tail. -/
def outer (x : ℝ) : ℝ :=
  ((((num 0xBB3A31BE#32 * x + num 0x3BDE413C#32) * x + num 0xBC053563#32) * x + num 0x3C16FD89#32) * x
    + num 0x3F8038DA#32) * x + num 0x40354F9D#32

/-- The inverse error function of a word's uniform number, by the two polynomials. -/
def gauss (w : BitVec 32) : ℝ :=
  (if tail w < num 0x40A00000#32 then centre (tail w - num 0x40200000#32)
    else outer (Real.sqrt (tail w) - num 0x40400000#32)) * unif w

/-! ## The logits -/

/-- The root of two, as the programs have it. -/
abbrev rt2 : EReal := Ideal.ofBits .f32 0x3FB504F3#32
/-- The logarithm of eight. -/
abbrev log8 : EReal := Ideal.ofBits .f32 0x40051592#32
/-- A half. -/
abbrev half : EReal := Ideal.ofBits .f32 0x3F000000#32
/-- Sixteen, which is half the number of coordinates. -/
abbrev sixteen : EReal := Ideal.ofBits .f32 0x41800000#32
/-- The constant of the density. -/
abbrev cnst : EReal := Ideal.ofBits .f32 0xC1EB3F8E#32

section Proto

variable (e : EReal) (S : Fin 8 → Fin 128 → Fin 34 → EReal)

/-- A support's variance. -/
def varS (s : Fin 8) (c : Fin 128) : EReal := Ideal.exp e + Ideal.exp (S s c 33)

/-- One over the supports' precisions. -/
def newVar (c : Fin 128) : EReal := Ideal.div 1 (∑ s, Ideal.div 1 (varS e S s c))

/-- A prototype's variance, by way of its logarithm. -/
def pvar (c : Fin 128) : EReal := Ideal.exp (Ideal.log (Ideal.exp e + newVar e S c))

/-- A prototype's mean. -/
def pmean (c : Fin 128) (d : Fin 32) : EReal := newVar e S c * ∑ s, Ideal.div (S s c ⟨1 + d.val, by omega⟩) (varS e S s c)

end Proto

section Logit

variable (Q : Fin 32 → EReal) (H : EReal) (M : Fin 128 → Fin 32 → EReal) (V : Fin 128 → EReal) (z : Fin 8 → Fin 128 → Fin 32 → ℝ)

/-- The variance of a query and a prototype together. -/
def vsum (c : Fin 128) : EReal := Ideal.exp H + V c

/-- Coordinate `d` of sample `s` of the product of the query and prototype `c`, less the prototype's. -/
def dist (s : Fin 8) (c : Fin 128) (d : Fin 32) : EReal :=
  Ideal.div (Q d * V c + M c d * Ideal.exp H) (vsum H V c) +
    Ideal.sqrt (Ideal.div (Ideal.exp H * V c) (vsum H V c)) * (rt2 * ((z s c d : ℝ) : EReal)) - M c d

/-- A sample's logarithmic density under its prototype. -/
def dens (s : Fin 8) (c : Fin 128) : EReal :=
  (cnst - sixteen * Ideal.log (V c)) - Ideal.div (half * (∑ d, dist Q H M V z s c d * dist Q H M V z s c d)) (V c)

/-- The logarithm of a sample's density under all prototypes together. -/
def denom (s : Fin 8) : EReal := Ideal.log (∑ c, Ideal.exp (dens Q H M V z s c))

/-- The logarithm of the mass of the product of the query and prototype `l`. -/
def mass (l : Fin 128) : EReal :=
  (cnst - sixteen * Ideal.log (vsum H V l)) - Ideal.div (half * (∑ d, (Q d - M l d) * (Q d - M l d))) (vsum H V l)

/-- The logit of the query for class `l`. -/
def logit (l : Fin 128) : EReal := mass Q H M V l + Ideal.log (∑ s, Ideal.exp (-denom Q H M V z s)) - log8

end Logit

/-- The first key word of a half. -/
def key0 (h : Fin 2) : BitVec 32 := if h = 0 then 507451445#32 else 1948878966#32
/-- The second key word of a half. -/
def key1 (h : Fin 2) : BitVec 32 := if h = 0 then 1853169794#32 else 4237131848#32

/-- The counter of the noise of query `b`, row `r`, sample `s`, prototype `c`, coordinate `d`. -/
def counter (b : Fin 8) (r : Fin 128) (s : Fin 8) (c : Fin 128) (d : Fin 32) : BitVec 32 :=
  BitVec.ofNat 32 ((((b.val * 128 + r.val) * 8 + s.val) * 128 + c.val) * 32 + d.val)

/-- The result of half `h`, query `b` of class `r`, for class `l`: the parameters `P` by half, sample, class and feature, and
    the logarithm `e` of the variance. -/
def result (e : EReal) (P : Fin 2 → Fin 8 → Fin 128 → Fin 34 → EReal) (h : Fin 2) (b : Fin 8) (r l : Fin 128) : EReal :=
  logit (fun d => P h b r ⟨1 + d.val, by omega⟩) (P h b r 33) (pmean e (P h.rev)) (pvar e (P h.rev))
    (fun s c d => gauss (bits (key0 h) (key1 h) (key0 h ^^^ key1 h ^^^ 466688986#32) (counter b r s c d))) l

/-- The parameters by half, sample, class and feature, where the rows are the samples of one class after another's. -/
def parts (p : Fin 2048 → Fin 34 → EReal) (h : Fin 2) (s : Fin 8) (c : Fin 128) (f : Fin 34) : EReal :=
  p ⟨(h.val * 8 + s.val) * 128 + c.val, by omega⟩ f

/-- The whole result, row by row: a query's value for every class in the first 128 columns, the number −100 in the others. -/
def table (e : EReal) (p : Fin 2048 → Fin 34 → EReal) (row : Fin 2048) (l : Fin 512) : EReal :=
  if h : l.val < 128 then
    result e (parts p) ⟨row.val / 1024, by omega⟩ ⟨row.val / 128 % 8, by omega⟩ ⟨row.val % 128, by omega⟩ ⟨l.val, h⟩
  else Ideal.ofBits .f32 0xC2C80000#32

/-! ## Extended reals -/

/-- A quotient of real numbers, the divisor not zero. -/
theorem div_real (x y : ℝ) (h : y ≠ 0) : Ideal.div (x : EReal) (y : EReal) = ((x / y : ℝ) : EReal) := by
  rw [Ideal.div_coe h, ← EReal.coe_mul, mul_one_div]

/-- The logarithm of a positive real number. -/
theorem log_real (x : ℝ) (h : 0 < x) : Ideal.log (x : EReal) = ((Real.log x : ℝ) : EReal) := by
  rw [Ideal.log_coe, if_neg h.not_ge]

/-- The root of a real number that is not negative. -/
theorem sqrt_real (x : ℝ) (h : 0 ≤ x) : Ideal.sqrt (x : EReal) = ((Real.sqrt x : ℝ) : EReal) := by
  rw [Ideal.sqrt_coe, if_neg h.not_gt]

/-- The larger of two real numbers. -/
theorem max_real (x y : ℝ) : max (x : EReal) (y : EReal) = ((max x y : ℝ) : EReal) := (EReal.coe_strictMono.monotone.map_max).symm

/-- A sum of real numbers. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The pattern of zero. -/
theorem num_zero : num 0x00000000#32 = 0 := by
  simp [num, Ideal.ofBits, Ideal.ieee]

/-- The pattern of one. -/
theorem num_one : num 0x3F800000#32 = 1 := by
  rw [num, ofBits_normal _ (by decide) (by decide), EReal.toReal_coe, show BitVec.extractLsb' 31 1 0x3F800000#32 = 0#1 by decide,
    show (BitVec.extractLsb' 23 8 0x3F800000#32).toNat = 127 by decide, show (BitVec.extractLsb' 0 23 0x3F800000#32).toNat = 0 by decide]
  norm_num

/-- The pattern of the number next to -1, towards zero. -/
theorem num_low : num 0xBF7FFFFF#32 = -16777215 / 16777216 := by
  rw [num, ofBits_normal _ (by decide) (by decide), EReal.toReal_coe, show BitVec.extractLsb' 31 1 0xBF7FFFFF#32 = 1#1 by decide,
    show (BitVec.extractLsb' 23 8 0xBF7FFFFF#32).toNat = 126 by decide, show (BitVec.extractLsb' 0 23 0xBF7FFFFF#32).toNat = 8388607 by decide]
  norm_num

/-- The pattern of zero stands for zero. -/
theorem zero_bits : Ideal.ofBits .f32 0x00000000#32 = 0 := by rw [num_coe _ (by decide), num_zero, EReal.coe_zero]
/-- The pattern of one stands for one. -/
theorem one_bits : Ideal.ofBits .f32 0x3F800000#32 = 1 := by rw [num_coe _ (by decide), num_one, EReal.coe_one]

/-- The sum of exponentials with a number taken out. -/
theorem log_sum_shift {ι : Type} [Fintype ι] [Nonempty ι] (x : ι → ℝ) (m : ℝ) :
    Real.log (∑ i, Real.exp (x i - m)) + m = Real.log (∑ i, Real.exp (x i)) := by
  have h : ∑ i, Real.exp (x i - m) = (∑ i, Real.exp (x i)) * Real.exp (-m) := by
    rw [Finset.sum_mul]; exact Finset.sum_congr rfl fun i _ => by rw [← Real.exp_add, sub_eq_add_neg]
  have hp : 0 < ∑ i, Real.exp (x i) := Finset.sum_pos (fun i _ => Real.exp_pos _) Finset.univ_nonempty
  rw [h, Real.log_mul hp.ne' (Real.exp_pos _).ne', Real.log_exp]
  ring

end Cert.Target

end
-- ==== Proof.KerNoise.lean ====
module

public import proofs.«01_k».proof.Proof.Words
public import proofs.«01_k».proof.Proof.Target

@[expose] public section

noncomputable section

/-! The kernel's hash, counters, keys and noise read at one entry of a chunk. -/

namespace Cert.Words

open Cert.KernelIdeal Cert.KernelIdeal.Gen Idealize.ShloMosaic

/-! ## The hash -/

/-- A pair of chunks at an entry. -/
def entry (st : Wd × Wd) (i : S8x8x128.Idx) : Target.Pair := (st.1 i, st.2 i)

/-- The rotation at an entry. -/
theorem rot_entry (r s : BitVec 32) (hr : r.toNat < 32) (hs : s.toNat < 32) (x : Wd) (i : S8x8x128.Idx) :
    rot r s x i = Target.rot r s (x i) := by
  show IntOp.ori (IntOp.shli .vector (x i) r) (IntOp.shrui .vector (x i) s) = _
  unfold IntOp.shli IntOp.shrui
  rw [if_pos hr, if_pos hs]
  rfl

/-- A round at an entry. -/
theorem rnd_entry (r s : BitVec 32) (hr : r.toNat < 32) (hs : s.toNat < 32) (st : Wd × Wd) (i : S8x8x128.Idx) :
    entry (rnd r s st) i = Target.rnd r s (entry st i) := by
  refine Prod.ext rfl ?_
  show IntOp.xori (rot r s st.2 i) (mix st i) = _
  rw [rot_entry r s hr hs]
  rfl

/-- The four rounds with the rotations 13, 15, 26, 6 at an entry. -/
theorem four_entry (st : Wd × Wd) (i : S8x8x128.Idx) : entry (four st) i = Target.four (entry st i) := by
  unfold four Target.four
  simp (disch := decide) only [rnd_entry]

/-- The four rounds with the rotations 17, 29, 16, 24 at an entry. -/
theorem four'_entry (st : Wd × Wd) (i : S8x8x128.Idx) : entry (four' st) i = Target.four' (entry st i) := by
  unfold four' Target.four'
  simp (disch := decide) only [rnd_entry]

/-- The addition of key words at an entry: the kernel adds the count to the key word first. -/
theorem inj_entry (k j n : BitVec 32) (st : Wd × Wd) (i : S8x8x128.Idx) :
    entry (inj k (Scalar.addi j n) st) i = Target.inj k j n (entry st i) :=
  Prod.ext rfl (BitVec.add_assoc _ _ _).symm

/-- The pair the rounds start from, at an entry. -/
theorem start_entry (k0 k1 : BitVec 32) (x : Wd) (i : S8x8x128.Idx) : entry (start k0 k1 x) i = Target.start k0 k1 (x i) :=
  Prod.ext (BitVec.zero_add _).symm rfl

/-- The hash at an entry. -/
theorem hash_entry (k0 k1 k2 : BitVec 32) (x : Wd) (i : S8x8x128.Idx) : hash k0 k1 k2 x i = Target.bits k0 k1 k2 (x i) := by
  have e : entry (inj k2 (Scalar.addi k0 5#32) (four (inj k1 (Scalar.addi k2 4#32) (four' (inj k0 (Scalar.addi k1 3#32) (four
      (inj k2 (Scalar.addi k0 2#32) (four' (inj k1 (Scalar.addi k2 1#32) (four (start k0 k1 x))))))))))) i = Target.hash k0 k1 k2 (x i) := by
    unfold Target.hash
    rw [inj_entry, four_entry, inj_entry, four'_entry, inj_entry, four_entry, inj_entry, four'_entry, inj_entry, four_entry, start_entry]
  unfold Target.bits
  rw [← e]
  rfl

/-! ## The noise -/

/-- The value of the constant named `scale`. -/
theorem scale_value : Named.named (F := Ideal) (φ := .f32) κ "scale" 0x40000000#32 = ((33554431 / 16777216 : ℝ) : EReal) :=
  IdealRules.named_const.ideal_named_scalar _ _ _ _ rfl

/-- The value of the constant named `off`. -/
theorem off_value : Named.named (F := Ideal) (φ := .f32) κ "off" 0xC0400000#32 = ((-25165823 / 8388608 : ℝ) : EReal) :=
  IdealRules.named_const.ideal_named_scalar _ _ _ _ rfl

/-- The uniform number at an entry. -/
theorem unif_entry (b : Wd) (i : S8x8x128.Idx) : unif (F := Ideal) b i = ((Target.unif (b i) : ℝ) : EReal) := by
  show Ideal.ofBits .f32 (IntOp.ori (IntOp.shrui .vector (b i) 9#32) 0x3F800000#32) *
    Named.named (F := Ideal) (φ := .f32) κ "scale" 0x40000000#32 + Named.named (F := Ideal) (φ := .f32) κ "off" 0xC0400000#32 = _
  have e : IntOp.ori (IntOp.shrui .vector (b i) 9#32) 0x3F800000#32 = (b i >>> 9#32) ||| 0x3F800000#32 := by
    unfold IntOp.shrui
    rw [if_pos (by decide)]
    rfl
  rw [e, Target.frac_coe, scale_value, off_value, ← EReal.coe_mul, ← EReal.coe_add]
  rfl

/-- Minus the logarithm of one less the square of the uniform number, at an entry. -/
theorem tailW_entry (b : Wd) (i : S8x8x128.Idx) : tailW (F := Ideal) (unif b) i = ((Target.tail (b i) : ℝ) : EReal) := by
  show Ideal.ofBits .f32 0x00000000#32 - Ideal.log (Ideal.ofBits .f32 0x3F800000#32 - unif (F := Ideal) b i * unif (F := Ideal) b i) = _
  rw [unif_entry, Target.num_coe _ (by decide), Target.num_coe _ (by decide), Target.num_zero, Target.num_one, ← EReal.coe_mul,
    ← EReal.coe_sub, Target.log_real _ (Target.unif_sq _), ← EReal.coe_sub, zero_sub]
  rfl

/-- Whether a real number is below the bound between the two polynomials. -/
theorem cmp_small (x : ℝ) : FloatOps.cmpf (F := Ideal) (φ := .f32) .olt (x : EReal) (Ideal.ofBits .f32 0x40A00000#32)
    = BitVec.ofBool (decide (x < Target.num 0x40A00000#32)) := by
  rw [Target.num_coe _ (by decide)]
  show BitVec.ofBool (decide ((x : EReal) < _)) = _
  congr 1
  exact decide_eq_decide.mpr EReal.coe_lt_coe_iff

/-- The polynomial's argument, a real number. -/
def argR (t : ℝ) : ℝ := if t < Target.num 0x40A00000#32 then t - Target.num 0x40200000#32 else Real.sqrt t - Target.num 0x40400000#32

/-- The polynomial's argument at an entry. -/
theorem polyArg_entry (w : FVec Ideal S8x8x128 .f32) (i : S8x8x128.Idx) (t : ℝ) (ht : w i = (t : EReal)) (h0 : 0 ≤ t) :
    polyArg w i = ((argR t : ℝ) : EReal) := by
  show Scalar.select (FloatOps.cmpf (F := Ideal) (φ := .f32) .olt (w i) (Ideal.ofBits .f32 0x40A00000#32))
    (w i - Ideal.ofBits .f32 0x40200000#32) (Ideal.sqrt (w i) - Ideal.ofBits .f32 0x40400000#32) = _
  rw [ht, cmp_small, Target.num_coe 0x40200000#32 (by decide), Target.num_coe 0x40400000#32 (by decide), Target.sqrt_real _ h0,
    ← EReal.coe_sub, ← EReal.coe_sub]
  unfold argR
  by_cases h : t < Target.num 0x40A00000#32
  · rw [decide_eq_true h, if_pos h]; rfl
  · rw [decide_eq_false h, if_neg h]; rfl

/-- A coefficient, a real number. -/
def coefR (t : ℝ) (a b : BitVec 32) : ℝ := if t < Target.num 0x40A00000#32 then Target.num a else Target.num b

/-- A coefficient at an entry. -/
theorem coef_entry (w : FVec Ideal S8x8x128 .f32) (i : S8x8x128.Idx) (t : ℝ) (ht : w i = (t : EReal)) (a b : BitVec 32)
    (ha : (a.extractLsb' 23 8).toNat ≠ 255 := by decide) (hb : (b.extractLsb' 23 8).toNat ≠ 255 := by decide) :
    coef w a b i = ((coefR t a b : ℝ) : EReal) := by
  show Scalar.select (FloatOps.cmpf (F := Ideal) (φ := .f32) .olt (w i) (Ideal.ofBits .f32 0x40A00000#32))
    (Ideal.ofBits .f32 a) (Ideal.ofBits .f32 b) = _
  rw [ht, cmp_small, Target.num_coe a ha, Target.num_coe b hb]
  unfold coefR
  by_cases h : t < Target.num 0x40A00000#32
  · rw [decide_eq_true h, if_pos h]; rfl
  · rw [decide_eq_false h, if_neg h]; rfl

/-- One step of Horner's scheme at an entry. -/
theorem horner_entry (w p : FVec Ideal S8x8x128 .f32) (i : S8x8x128.Idx) (t x : ℝ) (ht : w i = (t : EReal)) (h0 : 0 ≤ t)
    (hp : p i = (x : EReal)) (a b : BitVec 32) (ha : (a.extractLsb' 23 8).toNat ≠ 255 := by decide)
    (hb : (b.extractLsb' 23 8).toNat ≠ 255 := by decide) :
    horner w a b p i = ((x * argR t + coefR t a b : ℝ) : EReal) := by
  show coef w a b i + p i * polyArg w i = _
  rw [coef_entry w i t ht a b ha hb, polyArg_entry w i t ht h0, hp, ← EReal.coe_mul, ← EReal.coe_add, add_comm]

/-- The noise at an entry: the target's, of that entry's word. -/
theorem noise_entry (b : Wd) (i : S8x8x128.Idx) : noise (F := Ideal) b i = ((Target.gauss (b i) : ℝ) : EReal) := by
  show poly (tailW (unif (F := Ideal) b)) i * unif (F := Ideal) b i = _
  have ht := tailW_entry b i
  have h0 := Target.tail_nonneg (b i)
  unfold poly
  rw [horner_entry _ _ i _ _ ht h0 (horner_entry _ _ i _ _ ht h0 (horner_entry _ _ i _ _ ht h0 (horner_entry _ _ i _ _ ht h0
    (horner_entry _ _ i _ _ ht h0 (coef_entry _ i _ ht _ _) _ _) _ _) _ _) _ _) _ _, unif_entry, ← EReal.coe_mul]
  unfold Target.gauss Target.centre Target.outer argR coefR
  by_cases h : Target.tail (b i) < Target.num 0x40A00000#32
  · simp only [if_pos h]
  · simp only [if_neg h]

end Cert.Words

end
-- ==== Proof.Trip.lean ====
module

public import proofs.«01_k».proof.Proof.Gen.KernelIdeal.Loops
public import proofs.«01_k».proof.Proof.Words

@[expose] public section

set_option maxRecDepth 100000
set_option maxHeartbeats 4000000

noncomputable section

/-! What one trip of the kernel's loop stores. -/

namespace Cert.KernelIdeal.Gen

open Idealize.ShloMosaic Idealize.ShloMosaic.TcCoe Idealize.ShloMosaic.Tactic Idealize.SL Idealize.SL.RA Idealize.SL.Sem

variable {F : FTy → Type} [FloatOps F] [Named F]

/-- One trip of the loop over the rows stores the block's results, from the trip's rows of the queries. -/
theorem trip_eq (𝒱 : Variants) (c : Dev nD) (bd : Option 𝒱.V) (i : grid0.Coords) (arg1 : Memref sig .tc .vmem S1x128 .f32) (harg1 : arg1.IsWhole) (arg2 : Memref sig .tc .vmem S1x128x32 .f32) (harg2 : arg2.IsWhole) (arg3 : Memref sig .tc .vmem S1x128x1 .f32) (harg3 : arg3.IsWhole) (arg4 : Memref sig .tc .vmem S1x8x32x128 .f32) (harg4 : arg4.IsWhole) (arg5 : Memref sig .tc .vmem S1x8x128 .f32) (harg5 : arg5.IsWhole) (arg6 : Memref sig .tc .vmem S128x512 .f32) (harg6 : arg6.IsWhole) (v28 : BitVec 32) (v30 : BitVec 32) (v32 : BitVec 32) (v96 : FVec F S32x128 .f32) (v97 : FVec F S1x128 .f32) (v102 : FVec F S1x128 .f32) (v111 : IVec S8x8x128 32) (v114 : BitVec 32) (X_arg2 : BufTy.Contents (Elt F) arg2.view.ty) (X_arg3 : BufTy.Contents (Elt F) arg3.view.ty) (k : Fin k0_t1_loop.trips) :
  tripL_k0_t1 (F := F) 𝒱 c bd i arg1 harg1 arg2 harg2 arg3 harg3 arg4 harg4 arg5 harg5 arg6 harg6 v28 v30 v32 v96 v97 v102 v111 v114 X_arg2 X_arg3 k = [⟨Rect.unit (s := S128x512) (k0_off3 k) S8x128.size (k0_off3_inb k), Words.block
    (shapeCast S8x32 (View.readAt (Elt F) arg2.view (Rect.unit (s := S1x128x32) (k0_off1 k) S1x8x32.size (k0_off1_inb k)).toLoadRect X_arg2) shapeCasts_S1x8x32_S8x32)
    (shapeCast S8x1 (View.readAt (Elt F) arg3.view (Rect.unit (s := S1x128x1) (k0_off2 k) S1x8x1.size (k0_off2_inb k)).toLoadRect X_arg3) shapeCasts_S1x8x1_S8x1)
    v96 v97 v102 v28 v30 v32 v111 (Scalar.addi v114 (Scalar.muli (Scf.iv 0#32 1#32 k.val) 262144#32))⟩] := by
  unfold tripL_k0_t1
  unfold trip_k0_t1
  dsimp only
  sl_unfold_run_names
  unfold_payloads
  dsimp -failIfUnchanged only
  simp only [Words.rot_fold, Words.start_mix, Words.start_rnd, Words.rnd_mix, Words.rnd_rnd, Words.inj_mix, Words.inj_rnd, Words.inj_both,
   Words.unif_fold, Words.tailW_fold, Words.polyArg_fold, Words.coef_fold, Words.horner_fold, Words.poly_fold, Words.noise_fold, Words.plane_fold, Words.colB_fold, Words.rowB_fold, Words.sqA_fold, Words.delta_fold, Words.draw_fold, Words.dens_fold, Words.sumStep_fold]
  simp only [Words.hash_fold]
  simp only [Words.block, Words.mass, Words.sampleLse, Words.sample, Words.spread, Words.recipVar, Words.bothVar, Words.protoVar, Words.queryVar, Words.squares, Words.runMax, Words.runSum, Words.negLse, Words.rowMax, Words.rowSum, Nat.reduceMul, Nat.reduceMod, Nat.reduceDiv, Nat.reduceAdd]

end Cert.KernelIdeal.Gen
end
-- ==== Proof.Body.lean ====
module

public import Idealize.ShloMosaic.Lib.WholeRead
public import Idealize.ShloMosaic.Lib.WritesUnit
public import Idealize.ShloMosaic.Lib.ValueLayout
public import proofs.«01_k».proof.Proof.Gen.KernelIdeal.Frame
public import proofs.«01_k».proof.Proof.Trip

@[expose] public section

noncomputable section

/-! What the kernel's body leaves in the output block, entry by entry. -/

namespace Cert.Words

open Cert.KernelIdeal Cert.KernelIdeal.Gen Idealize.ShloMosaic

variable {F : FTy → Type} [FloatOps F] [Named F]

/-! ## The prototypes -/

/-- Support `s` of the block, one row per coordinate. -/
def support (s : ℕ) (x : FVec F S1x8x32x128 .f32) : FVec F S32x128 .f32 := fun j => x (ix4 0 (Fin.ofNat 8 s) (j 0) (j 1))

/-- Row `s` of the supports' precisions, along the coordinates. -/
def rowC (s : ℕ) (x : FVec F S8x128 .f32) : FVec F S32x128 .f32 := fun j => x (ix2 (Fin.ofNat 8 s) (j 1))

/-- A row cut out of the supports' precisions and repeated along the coordinates is `rowC`. -/
theorem rowC_fold (d : ℕ) (x : FVec F S8x128 .f32) (h : S8x128.Slices ![d, 0] S1x128) (h' : S1x128.Broadcasts S32x128) :
    broadcastTo S32x128 (extractStridedSlice S1x128 ![d, 0] x h) h' = rowC d x := by
  have hd : d < 8 := by have := h.2 0; simp [S8x128, S1x128] at this; omega
  funext j
  refine congrArg x (funext fun a => ?_)
  fin_cases a
  · exact Fin.ext (by simp [extractStridedSlice, ix2, Fin.ofNat, Nat.mod_eq_of_lt hd, S1x128])
  · exact Fin.ext (by simp [extractStridedSlice, ix2, S1x128])

/-- The supports' precisions, from the variances' row `v` and the supports' logarithmic variances `e`. -/
def prec (v : FVec F S1x128 .f32) (e : FVec F S8x128 .f32) : FVec F S8x128 .f32 :=
  divf (broadcast S8x128 (FloatOps.ofBits .f32 0x3F800000#32)) (addf (broadcastTo S8x128 v broadcasts_S1x128_S8x128) (exp e))

/-- One over the precisions' sum. -/
def postVar (v : FVec F S1x128 .f32) (e : FVec F S8x128 .f32) : FVec F S1x128 .f32 :=
  divf (broadcast S1x128 (FloatOps.ofBits .f32 0x3F800000#32)) (shapeCast S1x128
    (multiReduction .add [0] S128 (prec v e) 0x00000000#32 reduces_S8x128_S128) shapeCasts_S128_S1x128)

/-- The prototypes' variances. -/
def protoVars (v : FVec F S1x128 .f32) (e : FVec F S8x128 .f32) : FVec F S1x128 .f32 := addf v (postVar v e)

/-- The supports times their precisions, added up. -/
def weighted (x : FVec F S1x8x32x128 .f32) (w : FVec F S8x128 .f32) : ℕ → FVec F S32x128 .f32
  | 0 => broadcast S32x128 (FloatOps.ofBits .f32 0x00000000#32)
  | n + 1 => addf (weighted x w n) (mulf (support n x) (rowC n w))

/-- The prototypes' means. -/
def protoMeans (x : FVec F S1x8x32x128 .f32) (v : FVec F S1x128 .f32) (e : FVec F S8x128 .f32) : FVec F S32x128 .f32 :=
  mulf (weighted x (prec v e) 8) (broadcastTo S32x128 (postVar v e) broadcasts_S1x128_S32x128)

/-- The prototypes' constants of the logarithmic density. -/
def protoConst (v : FVec F S1x128 .f32) (e : FVec F S8x128 .f32) : FVec F S1x128 .f32 :=
  subf (broadcast S1x128 (FloatOps.ofBits .f32 0xC1EB3F8E#32))
    (mulf (broadcast S1x128 (FloatOps.ofBits .f32 0x41800000#32)) (log (protoVars v e)))

/-! ## Counters and keys -/

/-- The counter of a block's entry, from the block's own. -/
def offsets : Wd :=
  addi (addi (iota .tc S8x8x128 32 [0] iota_S8x8x128_d0_w32)
    (muli (broadcast S8x8x128 32768#32) (iota .tc S8x8x128 32 [1] iota_S8x8x128_d1_w32)))
    (muli (broadcast S8x8x128 32#32) (iota .tc S8x8x128 32 [2] iota_S8x8x128_d2_w32))

/-- Whether a grid point is of the first half: its floor quotient by eight is zero. -/
def firstHalf (n : BitVec 32) : BitVec 1 :=
  Scalar.cmpi .eq (Scalar.select (Scalar.andi
    (Scalar.cmpi .ne (Scalar.subi (Scalar.extui (Scalar.cmpi .sgt n 0#32)) (Scalar.extui (Scalar.cmpi .slt n 0#32))) 1#32)
    (Scalar.cmpi .ne (Scalar.remsi n 8#32) 0#32)) (Scalar.subi (Scalar.divsi n 8#32) 1#32) (Scalar.divsi n 8#32)) 0#32

/-- The first key word of a grid point. -/
def key0 (n : BitVec 32) : BitVec 32 := Scalar.select (firstHalf n) 507451445#32 1948878966#32

/-- The second key word of a grid point. -/
def key1 (n : BitVec 32) : BitVec 32 := Scalar.select (firstHalf n) 1853169794#32 4237131848#32

/-- The third key word of a grid point. -/
def key2 (n : BitVec 32) : BitVec 32 := Scalar.xori (Scalar.xori (key0 n) (key1 n)) 466688986#32

/-- The first counter of a grid point. -/
def base (n : BitVec 32) : BitVec 32 :=
  Scalar.muli (Scalar.select (Scalar.andi
      (Scalar.xori (Scalar.cmpi .slt (Scalar.remsi n 8#32) 0#32) 0#1) (Scalar.cmpi .ne (Scalar.remsi n 8#32) 0#32))
    (Scalar.addi (Scalar.remsi n 8#32) 8#32) (Scalar.remsi n 8#32)) 4194304#32

/-! ## The rows of one trip -/

/-- The queries' means of trip `k`. -/
def tripMeans (k : ℕ) (x : FVec F S1x128x32 .f32) : FVec F S8x32 .f32 :=
  fun j => x (ix3 0 (Fin.ofNat 128 (8 * k + (j 0).val)) (j 1))

/-- The queries' logarithmic variances of trip `k`. -/
def tripVars (k : ℕ) (x : FVec F S1x128x1 .f32) : FVec F S8x1 .f32 := fun j => x (ix3 0 (Fin.ofNat 128 (8 * k + (j 0).val)) 0)

end Cert.Words

namespace Cert.KernelIdeal.Gen

open Idealize.ShloMosaic Idealize.ShloMosaic.TcCoe Idealize.ShloMosaic.Tactic Idealize.SL Idealize.SL.RA Idealize.SL.Sem

variable {F : FTy → Type} [FloatOps F] [Named F]

/-- The variances' row, read whole, is what the block holds. -/
theorem read_var (a : Memref sig .tc .vmem S1x128 .f32) (h : a.IsWhole) (x : Vec F S1x128 .f32) (hb) (h') :
    shapeCast (s := S1x128) S1x128 (View.readAt (Elt F) a.view (Rect.unit (s := S1x128) ![0, 0] ![1, 128] hb).toLoadRect (h.unread x)) h' = x := by
  refine (shapeCast_self _ _).trans (funext fun j => (h.readAt_unread x _ j).trans (congrArg x (funext fun b => Fin.ext ?_)))
  fin_cases b <;> simp [LoadRect.idx]

/-- The supports' logarithmic variances, read whole, are what the block holds. -/
theorem read_logvars (a : Memref sig .tc .vmem S1x8x128 .f32) (h : a.IsWhole) (x : Vec F S1x8x128 .f32) (hb) (h') :
    shapeCast (s := S1x8x128) S8x128 (View.readAt (Elt F) a.view (Rect.unit (s := S1x8x128) ![0, 0, 0] ![1, 8, 128] hb).toLoadRect (h.unread x)) h'
      = fun j => x (ix3 0 (j 0) (j 1)) := by
  funext j
  refine (congrArg _ (eq_ix2 j)).trans ((ValueIdx.shapeCast_1ab_ab_apply (a := 8) (b := 128) _ h' (j 0) (j 1)).trans
    ((h.readAt_unread x _ _).trans (congrArg x (funext fun b => Fin.ext ?_))))
  fin_cases b <;> simp [LoadRect.idx, ix3]

/-- Support `s`, read from the block, is `support s`. -/
theorem read_support (s : ℕ) (a : Memref sig .tc .vmem S1x8x32x128 .f32) (h : a.IsWhole) (x : Vec F S1x8x32x128 .f32) (hb) (h') :
    shapeCast (s := S1x1x32x128) S32x128 (View.readAt (Elt F) a.view (Rect.unit (s := S1x8x32x128) ![0, s, 0, 0] ![1, 1, 32, 128] hb).toLoadRect
      (h.unread x)) h' = Words.support s x := by
  have hs : s < 8 := by have := hb 1; simp [S1x8x32x128] at this; omega
  funext j
  refine (congrArg _ (eq_ix2 j)).trans ((congrArg _ (ValueIdx.reshapeEquiv_ix2_11ab (a := 32) (b := 128) h' (j 0) (j 1))).trans
    ((h.readAt_unread x _ _).trans (congrArg x (funext fun b => Fin.ext ?_))))
  fin_cases b <;> simp [LoadRect.idx, ix4, Fin.ofNat, Nat.mod_eq_of_lt hs]

/-- Trip `k` reads the queries' means from row `8 k` on. -/
theorem off1_eq : ∀ k : Fin k0_t1_loop.trips, k0_off1 k = ![0, 8 * k.val, 0] := by decide +kernel
/-- Trip `k` reads the queries' logarithmic variances from row `8 k` on. -/
theorem off2_eq : ∀ k : Fin k0_t1_loop.trips, k0_off2 k = ![0, 8 * k.val, 0] := by decide +kernel
/-- Trip `k` stores its rows from row `8 k` on. -/
theorem off3_eq : ∀ k : Fin k0_t1_loop.trips, k0_off3 k = ![8 * k.val, 0] := by decide +kernel

/-- The whole body's stores: the loop's over the fill of the columns past the last class. -/
theorem run_eq (c : Dev nD) (i : grid0.Coords) (arg1 : Memref sig .tc .vmem S1x128 .f32) (harg1 : arg1.IsWhole) (arg2 : Memref sig .tc .vmem S1x128x32 .f32) (harg2 : arg2.IsWhole) (arg3 : Memref sig .tc .vmem S1x128x1 .f32) (harg3 : arg3.IsWhole) (arg4 : Memref sig .tc .vmem S1x8x32x128 .f32) (harg4 : arg4.IsWhole) (arg5 : Memref sig .tc .vmem S1x8x128 .f32) (harg5 : arg5.IsWhole) (arg6 : Memref sig .tc .vmem S128x512 .f32) (harg6 : arg6.IsWhole)
    (x0 : Vec F S1x128 .f32) (x1 : Vec F S1x128x32 .f32) (x2 : Vec F S1x128x1 .f32) (x3 : Vec F S1x8x32x128 .f32) (x4 : Vec F S1x8x128 .f32) :
    (kernelRun0_A c i arg1 harg1 arg2 harg2 arg3 harg3 arg4 harg4 arg5 harg5 arg6 harg6 x0 x1 x2 x3 x4).1
      = pb_k0_t1 Variants.none c none i arg1 harg1 arg2 harg2 arg3 harg3 arg4 harg4 arg5 harg5 arg6 harg6
          (Words.key0 (BitVec.ofNat 32 (i 0).val)) (Words.key1 (BitVec.ofNat 32 (i 0).val)) (Words.key2 (BitVec.ofNat 32 (i 0).val))
          (Words.protoMeans x3 x0 (fun j => x4 (ix3 0 (j 0) (j 1)))) (Words.protoVars x0 (fun j => x4 (ix3 0 (j 0) (j 1))))
          (Words.protoConst x0 (fun j => x4 (ix3 0 (j 0) (j 1)))) Words.offsets (Words.base (BitVec.ofNat 32 (i 0).val))
          (harg2.unread x1) (harg3.unread x2) 16
        ++ [⟨Rect.unit (s := S128x512) ![0, 128] S128x384.size inb_S128x512_S128x384_0_128,
            broadcast S128x384 (FloatOps.ofBits .f32 0xC2C80000#32)⟩] := by
  unfold kernelRun0_A
  dsimp only
  sl_unfold_run_names
  unfold_payloads
  dsimp -failIfUnchanged only
  simp only [read_var arg1 harg1 x0, read_logvars arg5 harg5 x4, read_support 0 arg4 harg4 x3, read_support 1 arg4 harg4 x3, read_support 2 arg4 harg4 x3,
    read_support 3 arg4 harg4 x3, read_support 4 arg4 harg4 x3, read_support 5 arg4 harg4 x3, read_support 6 arg4 harg4 x3,
    read_support 7 arg4 harg4 x3, Words.rowC_fold]
  simp only [Words.protoMeans, Words.weighted, Words.protoConst, Words.protoVars, Words.postVar, Words.prec]
  refine congrArg₂ (· ++ ·) ?_ rfl
  congr 1

/-- The queries' means that trip `k` reads. -/
theorem read_means (k : Fin k0_t1_loop.trips) (a : Memref sig .tc .vmem S1x128x32 .f32) (h : a.IsWhole) (x : Vec F S1x128x32 .f32) :
    shapeCast (s := S1x8x32) S8x32 (View.readAt (Elt F) a.view (Rect.unit (s := S1x128x32) (k0_off1 k) S1x8x32.size (k0_off1_inb k)).toLoadRect (h.unread x)) shapeCasts_S1x8x32_S8x32
      = Words.tripMeans k.val x := by
  have hk : k.val < 16 := k.isLt
  funext j
  have hj : (j 0).val < 8 := (j 0).isLt
  refine (congrArg _ (eq_ix2 j)).trans ((ValueIdx.shapeCast_1ab_ab_apply (a := 8) (b := 32) _ shapeCasts_S1x8x32_S8x32 (j 0) (j 1)).trans
    ((h.readAt_unread x _ _).trans (congrArg x (funext fun b => Fin.ext ?_))))
  have := congrFun (off1_eq k) b
  fin_cases b <;> simp [LoadRect.idx, ix3, ValueIdx.ix3, Fin.ofNat] at this ⊢ <;> omega

/-- The queries' logarithmic variances that trip `k` reads. -/
theorem read_qvars (k : Fin k0_t1_loop.trips) (a : Memref sig .tc .vmem S1x128x1 .f32) (h : a.IsWhole) (x : Vec F S1x128x1 .f32) :
    shapeCast (s := S1x8x1) S8x1 (View.readAt (Elt F) a.view (Rect.unit (s := S1x128x1) (k0_off2 k) S1x8x1.size (k0_off2_inb k)).toLoadRect (h.unread x)) shapeCasts_S1x8x1_S8x1
      = Words.tripVars k.val x := by
  have hk : k.val < 16 := k.isLt
  funext j
  have hj : (j 0).val < 8 := (j 0).isLt
  refine (congrArg _ (eq_ix2 j)).trans ((ValueIdx.shapeCast_1ab_ab_apply (a := 8) (b := 1) _ shapeCasts_S1x8x1_S8x1 (j 0) (j 1)).trans
    ((h.readAt_unread x _ _).trans (congrArg x (funext fun b => Fin.ext ?_))))
  have := congrFun (off2_eq k) b
  have hj1 : (j 1).val < 1 := (j 1).isLt
  fin_cases b <;> simp [LoadRect.idx, ix3, ValueIdx.ix3, Fin.ofNat] at this ⊢ <;> omega

/-- Stores of eight rows each, read back: each row's tile where a store has covered it, what lay there before elsewhere. -/
theorem read_rows (L : ℕ → List (View.Piece (Elt F) S128x512 .f32)) (W : ℕ → Vec F S8x128 .f32) (h0 : L 0 = [])
    (hL : ∀ k : Fin k0_t1_loop.trips, L (k.val + 1) = ⟨Rect.unit (s := S128x512) (k0_off3 k) S8x128.size (k0_off3_inb k), W k.val⟩ :: L k.val)
    (f : VO0_5.ty.Contents (Elt F)) (R : List (View.Piece (Elt F) S128x512 .f32))
    (r : Fin 128) (l : Fin 512) : ∀ n : ℕ, n ≤ 16 →
    VO0_5.read (Elt F) (VO0_5.writes (Elt F) f (L n ++ R)) (ix2 r l)
      = if h : l.val < 128 ∧ r.val < 8 * n then
          W (r.val / 8) (ix2 ⟨r.val % 8, Nat.mod_lt _ (by omega)⟩ ⟨l.val, h.1⟩)
        else VO0_5.read (Elt F) (VO0_5.writes (Elt F) f R) (ix2 r l)
  | 0, _ => by rw [dif_neg (by omega), h0]; rfl
  | n + 1, hn => by
    have ih := read_rows L W h0 hL f R r l n (by omega)
    have hn' : n < k0_t1_loop.trips := hn
    rw [hL ⟨n, hn'⟩, List.cons_append]
    by_cases h : l.val < 128 ∧ r.val < 8 * (n + 1)
    · by_cases hr : 8 * n ≤ r.val
      · have hd : r.val / 8 = n := by omega
        rw [dif_pos h]
        subst hd
        refine View.read_writes_cons_unit_of_mem VO0_5 f (k0_off3_inb ⟨r.val / 8, hn'⟩) (W (r.val / 8)) (L (r.val / 8) ++ R) (ix2 r l) (ix2 (⟨r.val % 8, Nat.mod_lt _ (by omega)⟩ : Fin 8) (⟨l.val, h.1⟩ : Fin 128)) (off3_eq ⟨_, hn'⟩) ?_
        intro a
        fin_cases a
        · show r.val = 8 * (r.val / 8) + r.val % 8
          omega
        · show l.val = 0 + l.val
          omega
      · refine (View.read_writes_cons_unit_of_not_mem _ _ _ _ _ _ (off3_eq ⟨_, hn'⟩) 0 (Or.inl (by show r.val < 8 * n; omega))).trans (ih.trans ?_)
        rw [dif_pos h, dif_pos ⟨h.1, by omega⟩]
    · have : (8 * n + 8 ≤ r.val) ∨ 128 ≤ l.val := by omega
      rw [dif_neg h]
      rw [dif_neg (by omega)] at ih
      refine Eq.trans ?_ ih
      rcases this with h' | h'
      · exact View.read_writes_cons_unit_of_not_mem _ _ _ _ _ _ (off3_eq ⟨_, hn'⟩) 0 (Or.inr h')
      · exact View.read_writes_cons_unit_of_not_mem _ _ _ _ _ _ (off3_eq ⟨_, hn'⟩) 1 (Or.inr (by show 0 + 128 ≤ l.val; omega))

/-- What the body leaves in the output block: the blocks' results in the classes' columns, the fill past them. -/
theorem out_apply (c : Dev nD) (i : grid0.Coords) (arg1 : Memref sig .tc .vmem S1x128 .f32) (harg1 : arg1.IsWhole) (arg2 : Memref sig .tc .vmem S1x128x32 .f32) (harg2 : arg2.IsWhole) (arg3 : Memref sig .tc .vmem S1x128x1 .f32) (harg3 : arg3.IsWhole) (arg4 : Memref sig .tc .vmem S1x8x32x128 .f32) (harg4 : arg4.IsWhole) (arg5 : Memref sig .tc .vmem S1x8x128 .f32) (harg5 : arg5.IsWhole) (arg6 : Memref sig .tc .vmem S128x512 .f32) (harg6 : arg6.IsWhole)
    (x0 : Vec F S1x128 .f32) (x1 : Vec F S1x128x32 .f32) (x2 : Vec F S1x128x1 .f32) (x3 : Vec F S1x8x32x128 .f32) (x4 : Vec F S1x8x128 .f32)
    (r : Fin 128) (l : Fin 512) :
    out0_A_5 c i arg1 harg1 arg2 harg2 arg3 harg3 arg4 harg4 arg5 harg5 arg6 harg6 x0 x1 x2 x3 x4 (ix2 r l)
      = if h : l.val < 128 then
          Words.block (Words.tripMeans (r.val / 8) x1) (Words.tripVars (r.val / 8) x2)
            (Words.protoMeans x3 x0 (fun j => x4 (ix3 0 (j 0) (j 1)))) (Words.protoVars x0 (fun j => x4 (ix3 0 (j 0) (j 1))))
            (Words.protoConst x0 (fun j => x4 (ix3 0 (j 0) (j 1))))
            (Words.key0 (BitVec.ofNat 32 (i 0).val)) (Words.key1 (BitVec.ofNat 32 (i 0).val)) (Words.key2 (BitVec.ofNat 32 (i 0).val)) Words.offsets
            (Scalar.addi (Words.base (BitVec.ofNat 32 (i 0).val)) (Scalar.muli (Scf.iv 0#32 1#32 (r.val / 8)) 262144#32))
            (ix2 ⟨r.val % 8, Nat.mod_lt _ (by omega)⟩ ⟨l.val, h⟩)
        else FloatOps.ofBits .f32 0xC2C80000#32 := by
  unfold out0_A_5
  rw [run_eq]
  refine (read_rows _ (fun n => Words.block (Words.tripMeans n x1) (Words.tripVars n x2)
            (Words.protoMeans x3 x0 (fun j => x4 (ix3 0 (j 0) (j 1)))) (Words.protoVars x0 (fun j => x4 (ix3 0 (j 0) (j 1))))
            (Words.protoConst x0 (fun j => x4 (ix3 0 (j 0) (j 1))))
            (Words.key0 (BitVec.ofNat 32 (i 0).val)) (Words.key1 (BitVec.ofNat 32 (i 0).val)) (Words.key2 (BitVec.ofNat 32 (i 0).val)) Words.offsets
            (Scalar.addi (Words.base (BitVec.ofNat 32 (i 0).val)) (Scalar.muli (Scf.iv 0#32 1#32 n) 262144#32))) rfl
    (fun k => by rw [pb_k0_t1_succ, trip_eq, List.singleton_append, read_means, read_qvars]) _ _ r l 16 (Nat.le_refl 16)).trans ?_
  by_cases h : l.val < 128
  · rw [dif_pos h, dif_pos ⟨h, by omega⟩]
  · rw [dif_neg h, dif_neg (fun h' => h h'.1)]
    refine View.read_writes_cons_unit_of_mem _ _ _ _ _ _ (ix2 r (⟨l.val - 128, by omega⟩ : Fin 384)) rfl ?_
    intro a
    fin_cases a
    · show r.val = 0 + r.val
      omega
    · show l.val = 128 + (l.val - 128)
      omega

end Cert.KernelIdeal.Gen

end
-- ==== Proof.Mixed.lean ====
module

public import proofs.«01_k».proof.Proof.Target

@[expose] public section

noncomputable section

/-! The target where its arguments may be infinite: which of its stages are positive, and that a density is a real number for one class
at least, and nowhere plus infinity, wherever the mass is not minus infinity. -/

namespace Cert.Target

open Idealize.ShloMosaic

/-! ## Exponentials and quotients -/

/-- An exponential is not negative. -/
theorem exp_nonneg (x : EReal) : 0 ≤ Ideal.exp x := by
  induction x with
  | bot => exact le_refl _
  | top => exact le_top
  | coe r => rw [Ideal.exp_coe]; exact EReal.coe_nonneg.mpr (Real.exp_pos r).le

/-- An exponential is positive, minus infinity's apart. -/
theorem exp_pos {x : EReal} (h : x ≠ ⊥) : 0 < Ideal.exp x := by
  induction x with
  | bot => exact absurd rfl h
  | top => exact EReal.zero_lt_top
  | coe r => rw [Ideal.exp_coe]; exact EReal.coe_pos.mpr (Real.exp_pos r)

/-- The exponential undoes the logarithm of a positive number, plus infinity's included. -/
theorem exp_log {x : EReal} (h : 0 < x) : Ideal.exp (Ideal.log x) = x := by
  induction x with
  | bot => exact absurd h (not_lt_of_ge bot_le)
  | top => rfl
  | coe r => rw [log_real r (EReal.coe_pos.mp h), Ideal.exp_coe, Real.exp_log (EReal.coe_pos.mp h)]

/-- A product with one over a number is the quotient by that number. -/
theorem mul_recip (x : EReal) {y : EReal} (h : y ≠ 0) : x * Ideal.div 1 y = Ideal.div x y := by
  unfold Ideal.div
  rw [if_neg h, if_neg h, one_mul]

/-- A quotient of numbers that are not negative, the divisor positive, is not negative. -/
theorem div_nonneg' {x y : EReal} (hx : 0 ≤ x) (hy : 0 < y) : 0 ≤ Ideal.div x y := by
  unfold Ideal.div
  rw [if_neg hy.ne']
  exact mul_nonneg hx (EReal.inv_nonneg_of_nonneg hy.le)

/-- One over a number that is not negative is not negative. -/
theorem recip_nonneg {y : EReal} (hy : 0 ≤ y) : 0 ≤ Ideal.div 1 y := by
  rcases hy.eq_or_lt with h | h
  · rw [← h]; unfold Ideal.div; rw [if_pos rfl, if_pos zero_lt_one]; exact le_top
  · exact div_nonneg' zero_le_one h

/-- A square is not negative. -/
theorem square_nonneg (x : EReal) : 0 ≤ x * x := by
  rcases le_total 0 x with h | h
  · exact mul_nonneg h h
  · exact EReal.mul_nonneg_iff.mpr (Or.inr ⟨h, h⟩)

/-! ## The variances -/

section Proto

variable {e : EReal} (he : e ≠ ⊥) (S : Fin 8 → Fin 128 → Fin 34 → EReal)

include he

/-- A support's variance is positive. -/
theorem varS_pos (s : Fin 8) (c : Fin 128) : 0 < varS e S s c := add_pos_of_pos_of_nonneg (exp_pos he) (exp_nonneg _)

/-- A sum of the variance and a prototype's is positive. -/
theorem var_pos (c : Fin 128) : 0 < Ideal.exp e + newVar e S c :=
  add_pos_of_pos_of_nonneg (exp_pos he) (recip_nonneg (Finset.sum_nonneg fun s _ => recip_nonneg (varS_pos he S s c).le))

/-- A prototype's variance is the sum whose logarithm it goes by. -/
theorem pvar_sum (c : Fin 128) : Ideal.exp e + newVar e S c = pvar e S c := (exp_log (var_pos he S c)).symm

/-- A prototype's variance is positive. -/
theorem pvar_pos (c : Fin 128) : 0 < pvar e S c := pvar_sum he S c ▸ var_pos he S c

end Proto

/-! ## Numbers that the programs have -/

/-- The constant of the density is a real. -/
theorem cnst_real : cnst = ((num 0xC1EB3F8E#32 : ℝ) : EReal) := num_coe _ (by decide)
/-- The root of two is a real. -/
theorem rt2_real : rt2 = ((num 0x3FB504F3#32 : ℝ) : EReal) := num_coe _ (by decide)
/-- Sixteen. -/
theorem sixteen_real : sixteen = ((16 : ℝ) : EReal) := by
  unfold sixteen
  rw [ofBits_normal _ (by decide) (by decide), show BitVec.extractLsb' 31 1 0x41800000#32 = 0#1 by decide,
    show (BitVec.extractLsb' 23 8 0x41800000#32).toNat = 131 by decide, show (BitVec.extractLsb' 0 23 0x41800000#32).toNat = 0 by decide]
  norm_num
/-- A half. -/
theorem half_real : half = ((1 / 2 : ℝ) : EReal) := by
  unfold half
  rw [ofBits_normal _ (by decide) (by decide), show BitVec.extractLsb' 31 1 0x3F000000#32 = 0#1 by decide,
    show (BitVec.extractLsb' 23 8 0x3F000000#32).toNat = 126 by decide, show (BitVec.extractLsb' 0 23 0x3F000000#32).toNat = 0 by decide]
  norm_num

/-! ## The densities -/

/-- A difference is minus infinity only where a part of it is infinite. -/
theorem of_sub_ne_bot {a b : EReal} (h : a - b ≠ ⊥) : a ≠ ⊥ ∧ b ≠ ⊤ := by
  constructor
  · rintro rfl; exact h (EReal.bot_sub _)
  · rintro rfl; exact h (EReal.sub_top _)

/-- A difference of a number below plus infinity and one above minus infinity is below plus infinity. -/
theorem sub_ne_top {a b : EReal} (ha : a ≠ ⊤) (hb : b ≠ ⊥) : a - b ≠ ⊤ := by
  rw [sub_eq_add_neg]
  exact EReal.add_ne_top ha (by rwa [Ne, EReal.neg_eq_top_iff])

section Logit

variable {Q : Fin 32 → EReal} {H : EReal} {M : Fin 128 → Fin 32 → EReal} {V : Fin 128 → EReal} {z : Fin 8 → Fin 128 → Fin 32 → ℝ}

/-- The variances of a query and a prototype together are positive. -/
theorem vsum_pos (hV : ∀ l, 0 < V l) (l : Fin 128) : 0 < vsum H V l :=
  (add_pos_of_pos_of_nonneg (hV l) (exp_nonneg _)).trans_eq (add_comm _ _)

/-- Sixteen times the logarithm of a positive number is above minus infinity. -/
theorem log16_ne_bot {x : EReal} (h : 0 < x) : sixteen * Ideal.log x ≠ ⊥ := by
  rw [sixteen_real]
  induction x with
  | bot => exact absurd h (not_lt_of_ge bot_le)
  | top =>
    show ((16 : ℝ) : EReal) * ⊤ ≠ ⊥
    rw [EReal.coe_mul_top_of_pos (by norm_num)]
    exact top_ne_bot
  | coe r =>
    rw [log_real r (EReal.coe_pos.mp h), ← EReal.coe_mul]
    exact EReal.coe_ne_bot _

/-- A density is below plus infinity. -/
theorem dens_ne_top (hV : ∀ l, 0 < V l) (s : Fin 8) (c : Fin 128) : dens Q H M V z s c ≠ ⊤ := by
  refine sub_ne_top (sub_ne_top ?_ (log16_ne_bot (hV c))) ?_
  · rw [cnst_real]; exact EReal.coe_ne_top _
  · refine (lt_of_lt_of_le EReal.bot_lt_zero (div_nonneg' ?_ (hV c))).ne'
    refine mul_nonneg ?_ (Finset.sum_nonneg fun d _ => square_nonneg _)
    rw [half_real]; exact EReal.coe_nonneg.mpr (by norm_num)

/-- A positive number whose logarithm is not plus infinity is a real number. -/
theorem real_of_log {x : EReal} (h : 0 < x) (hl : cnst - sixteen * Ideal.log x ≠ ⊥) : ∃ r : ℝ, 0 < r ∧ x = r := by
  induction x with
  | bot => exact absurd h (not_lt_of_ge bot_le)
  | top =>
    refine absurd ?_ (of_sub_ne_bot hl).2
    rw [sixteen_real]
    exact EReal.coe_mul_top_of_pos (by norm_num)
  | coe r => exact ⟨r, EReal.coe_pos.mp h, rfl⟩

/-- Where half a number, divided by a positive real, is not plus infinity, the number, if not negative, is not plus infinity. -/
theorem ne_top_of_half {x : EReal} {r : ℝ} (hr : 0 < r) (h : Ideal.div (half * x) (r : EReal) ≠ ⊤) : x ≠ ⊤ := by
  rintro rfl
  refine h ?_
  rw [half_real, EReal.coe_mul_top_of_pos (by norm_num), Ideal.div_coe hr.ne', EReal.top_mul_coe_of_pos (by positivity)]

/-- A part of a sum of numbers that are not negative is not plus infinity if the sum is not. -/
theorem part_ne_top {f : Fin 32 → EReal} (hf : ∀ d, 0 ≤ f d) (h : ∑ d, f d ≠ ⊤) (d : Fin 32) : f d ≠ ⊤ := by
  intro hd
  exact h (top_le_iff.mp (hd ▸ Finset.single_le_sum (fun d _ => hf d) (Finset.mem_univ d)))

/-- Where the square of a difference is not infinite, both numbers are real. -/
theorem reals_of_square {a b : EReal} (h : (a - b) * (a - b) ≠ ⊤) : (∃ r : ℝ, a = r) ∧ ∃ r : ℝ, b = r := by
  induction a with
  | bot => exact absurd (by rw [EReal.bot_sub]; rfl) h
  | top =>
    induction b with
    | bot => exact absurd rfl h
    | top => exact absurd rfl h
    | coe s => exact absurd rfl h
  | coe r =>
    induction b with
    | bot => exact absurd rfl h
    | top => exact absurd rfl h
    | coe s => exact ⟨⟨r, rfl⟩, s, rfl⟩

/-- Where the mass of the product with prototype `l` is not minus infinity, neither is a sample's density under that prototype. -/
theorem dens_ne_bot (hV : ∀ l, 0 < V l) (l : Fin 128) (h : mass Q H M V l ≠ ⊥) (s : Fin 8) : dens Q H M V z s l ≠ ⊥ := by
  obtain ⟨h1, h2⟩ := of_sub_ne_bot h
  obtain ⟨w, hw, hvs⟩ := real_of_log (vsum_pos hV l) h1
  rw [hvs] at h2
  have hq : ∀ d, (∃ r : ℝ, Q d = r) ∧ ∃ r : ℝ, M l d = r := fun d =>
    reals_of_square (part_ne_top (fun d => square_nonneg _) (ne_top_of_half hw h2) d)
  choose hQ hM using hq
  choose q hq using hQ
  choose m hm using hM
  have hv : ∃ v : ℝ, 0 < v ∧ V l = v := by
    have hp := hV l
    have he := exp_nonneg H
    unfold vsum at hvs
    generalize V l = x at *
    induction x with
    | bot => exact absurd hp (not_lt_of_ge bot_le)
    | top =>
      rw [EReal.add_top_of_ne_bot (lt_of_lt_of_le EReal.bot_lt_zero he).ne'] at hvs
      exact absurd hvs.symm (EReal.coe_ne_top _)
    | coe v => exact ⟨v, EReal.coe_pos.mp hp, rfl⟩
  obtain ⟨v, hv0, hv⟩ := hv
  have hu : ∃ u : ℝ, 0 ≤ u ∧ Ideal.exp H = u := by
    have he := exp_nonneg H
    unfold vsum at hvs
    rw [hv] at hvs
    generalize Ideal.exp H = x at *
    induction x with
    | bot => exact absurd he (not_le_of_gt EReal.bot_lt_zero)
    | top =>
      rw [EReal.top_add_coe] at hvs
      exact absurd hvs.symm (EReal.coe_ne_top _)
    | coe u => exact ⟨u, EReal.coe_nonneg.mp he, rfl⟩
  obtain ⟨u, hu0, hu⟩ := hu
  have hd : ∀ d, dist Q H M V z s l d = ((((q d * v + m d * u) / w + Real.sqrt (u * v / w) * (num 0x3FB504F3#32 * z s l d) - m d : ℝ)) : EReal) := by
    intro d
    unfold dist
    rw [hvs, hu, hv, hq, hm, rt2_real]
    simp only [← EReal.coe_mul, ← EReal.coe_add]
    rw [div_real _ _ hw.ne', div_real _ _ hw.ne', sqrt_real _ (by positivity)]
    simp only [← EReal.coe_mul, ← EReal.coe_add, ← EReal.coe_sub]
  unfold dens
  simp only [hd]
  rw [hv, log_real v hv0, cnst_real, sixteen_real, half_real]
  simp only [← EReal.coe_mul, sum_real]
  rw [div_real _ _ hv0.ne']
  simp only [← EReal.coe_sub]
  exact EReal.coe_ne_bot _

end Logit

/-! ## Sums of exponentials -/

/-- The exponential of a number below plus infinity is a real, positive unless the number is minus infinity; taking a real out of the
    number takes out a factor. -/
theorem exp_weight {x : EReal} (h : x ≠ ⊤) :
    ∃ w : ℝ, 0 ≤ w ∧ (x ≠ ⊥ → 0 < w) ∧ Ideal.exp x = w ∧ ∀ m : ℝ, Ideal.exp (x - m) = ((w * Real.exp (-m) : ℝ) : EReal) := by
  induction x with
  | top => exact absurd rfl h
  | bot =>
    refine ⟨0, le_refl _, fun h => absurd rfl h, rfl, fun m => ?_⟩
    rw [EReal.bot_sub, zero_mul]
    rfl
  | coe r =>
    refine ⟨Real.exp r, (Real.exp_pos r).le, fun _ => Real.exp_pos r, Ideal.exp_coe r, fun m => ?_⟩
    rw [← EReal.coe_sub, Ideal.exp_coe, ← Real.exp_add, sub_eq_add_neg]

/-- The logarithm of a sum of exponentials of numbers below plus infinity, not all of them minus infinity, is a real, and so it is
    with a real taken out of the numbers and added in the end. -/
theorem lse_shift {X : Fin 128 → EReal} (ht : ∀ c, X c ≠ ⊤) {l : Fin 128} (hl : X l ≠ ⊥) :
    ∃ t : ℝ, Ideal.log (∑ c, Ideal.exp (X c)) = t ∧ ∀ m : ℝ, Ideal.log (∑ c, Ideal.exp (X c - m)) + m = t := by
  choose w h0 h1 h2 h3 using fun c => exp_weight (ht c)
  have hp : 0 < ∑ c, w c := Finset.sum_pos' (fun c _ => h0 c) ⟨l, Finset.mem_univ l, h1 l hl⟩
  refine ⟨Real.log (∑ c, w c), ?_, fun m => ?_⟩
  · simp only [h2, sum_real]
    exact log_real _ hp
  · simp only [h3, sum_real]
    rw [← Finset.sum_mul, log_real _ (mul_pos hp (Real.exp_pos _)), ← EReal.coe_add, Real.log_mul hp.ne' (Real.exp_pos _).ne', Real.log_exp,
      neg_add_cancel_right]

end Cert.Target

end
-- ==== Proof.KerBlock.lean ====
module

public import proofs.«01_k».proof.Proof.KerNoise
public import proofs.«01_k».proof.Proof.Body
public import proofs.«01_k».proof.Proof.Mixed

@[expose] public section

noncomputable section

/-! One block of the kernel's results. -/

namespace Cert.Words

open Cert.KernelIdeal Cert.KernelIdeal.Gen Idealize.ShloMosaic

/-! ## Rows and columns -/

/-- A row repeated down a tile's eight rows, at an entry. -/
theorem alongRows {α : Type} (x : S1x128.Idx → α) (h : S1x128.Broadcasts S8x128) (r : Fin 8) (l : Fin 128) :
    broadcastTo S8x128 x h (ix2 r l) = x (ix2 0 l) := by
  refine congrArg x (funext fun a => ?_)
  fin_cases a
  · exact Fin.ext (by simp [ix2, S1x128])
  · exact Fin.ext (by simp [ix2, S1x128])

/-- A column repeated along a tile's columns, at an entry. -/
theorem alongColumns {α : Type} (x : S8x1.Idx → α) (h : S8x1.Broadcasts S8x128) (r : Fin 8) (l : Fin 128) :
    broadcastTo S8x128 x h (ix2 r l) = x (ix2 r 0) := by
  refine congrArg x (funext fun a => ?_)
  fin_cases a
  · exact Fin.ext (by simp [ix2, S8x1])
  · exact Fin.ext (by simp [ix2, S8x1])

/-- The index with the one coordinate `r`. -/
def one (r : Fin 8) : S8.Idx := fun a => match a with | ⟨0, _⟩ => r

/-- A vector of eight as a column, at a row. -/
theorem column_cast {α : Type} (x : S8.Idx → α) (h : S8.ShapeCasts S8x1) (r : Fin 8) :
    shapeCast S8x1 x h (ix2 r 0) = x (one r) :=
  shapeCast_apply x h (ix2 r 0) (one r) (by
    rw [Shape.rowMajor_val_one, Shape.rowMajor_val_two]
    show r.val = r.val * 1 + 0
    omega)

/-- The entries that a reduction along the columns takes for row `r` are that row's. -/
theorem lift_row (r : Fin 8) (k : Fin 128) : (reduces_S8x128_S8).lift (one r) k = ix2 r k := by
  funext a
  fin_cases a <;> rfl

/-- A row's sum. -/
theorem rowSum_apply (x : FVec Ideal S8x128 .f32) (r : Fin 8) : rowSum x (ix2 r 0) = ∑ l : Fin 128, x (ix2 r l) := by
  unfold rowSum
  rw [column_cast, Ideal.multiReduction_add_single]
  exact Finset.sum_congr rfl fun k _ => congrArg x (lift_row r k)

/-- The number that the largest entry is started from is minus infinity. -/
theorem lowest : Ideal.ofBits .f32 0xFF800000#32 = ⊥ := by simp [Ideal.ofBits, Ideal.ieee]

/-- The largest entry of a row is a real if all are below plus infinity and one is above minus infinity. -/
theorem rowMax_real (x : FVec Ideal S8x128 .f32) (r : Fin 8) (ht : ∀ l, x (ix2 r l) ≠ ⊤) {l : Fin 128} (hl : x (ix2 r l) ≠ ⊥) :
    ∃ m : ℝ, rowMax x (ix2 r 0) = (m : EReal) := by
  unfold rowMax
  rw [column_cast, Ideal.multiReduction_maximumf_single, Ideal.ofBits_def, lowest]
  have e : x ∘ (reduces_S8x128_S8).lift (one r) = fun l : Fin 128 => x (ix2 r l) := funext fun l => congrArg x (lift_row r l)
  rw [e]
  have h1 : (Finset.univ : Finset (Fin 128)).fold max (⊥ : EReal) (fun l => x (ix2 r l)) ≠ ⊤ :=
    ((Finset.fold_max_lt ⊤).mpr ⟨bot_lt_top, fun l _ => lt_top_iff_ne_top.mpr (ht l)⟩).ne
  have h2 : (Finset.univ : Finset (Fin 128)).fold max (⊥ : EReal) (fun l => x (ix2 r l)) ≠ ⊥ :=
    ((Finset.lt_fold_max ⊥).mpr (Or.inr ⟨l, Finset.mem_univ l, bot_lt_iff_ne_bot.mpr hl⟩)).ne'
  exact ⟨_, (EReal.coe_toReal h1 h2).symm⟩

/-- Minus the logarithm of a row's sum of exponentials, which is a real. -/
theorem negLse_real (x : FVec Ideal S8x128 .f32) (r : Fin 8) (ht : ∀ l, x (ix2 r l) ≠ ⊤) {l : Fin 128} (hl : x (ix2 r l) ≠ ⊥) :
    ∃ t : ℝ, Ideal.log (∑ l : Fin 128, Ideal.exp (x (ix2 r l))) = t ∧ negLse x (ix2 r 0) = ((-t : ℝ) : EReal) := by
  obtain ⟨m, hm⟩ := rowMax_real x r ht hl
  obtain ⟨t, h1, h2⟩ := Target.lse_shift ht hl
  refine ⟨t, h1, ?_⟩
  have hs : rowSum (exp (subf x (broadcastTo S8x128 (rowMax x) broadcasts_S8x1_S8x128))) (ix2 r 0)
      = ∑ l : Fin 128, Ideal.exp (x (ix2 r l) - m) := by
    refine (rowSum_apply _ r).trans (Finset.sum_congr rfl fun l _ => ?_)
    show Ideal.exp (x (ix2 r l) - broadcastTo S8x128 (rowMax x) broadcasts_S8x1_S8x128 (ix2 r l)) = _
    rw [alongColumns, hm]
  show Ideal.ofBits .f32 0x00000000#32 - (Ideal.log (rowSum (exp (subf x (broadcastTo S8x128 (rowMax x) broadcasts_S8x1_S8x128))) (ix2 r 0))
    + rowMax x (ix2 r 0)) = _
  rw [hs, hm, h2 m, Target.zero_bits, zero_sub, EReal.coe_neg]

/-- Squares added up. -/
theorem squares_apply (x : ℕ → FVec Ideal S8x128 .f32) (j : S8x128.Idx) (n : ℕ) :
    squares x n j = ∑ d ∈ Finset.range n, x d j * x d j := by
  induction n with
  | zero => exact Target.zero_bits
  | succ n ih =>
    show squares x n j + x n j * x n j = _
    rw [ih, Finset.sum_range_succ]

/-- The running largest entry is a real, and the running sum is the sum of the exponentials less it. -/
theorem run_real (y : ℕ → FVec Ideal S8x1 .f32) (Y : ℕ → ℝ) (j : S8x1.Idx) (n : ℕ) (hy : ∀ s < n, y s j = ((Y s : ℝ) : EReal)) :
    ∃ m : ℝ, runMax y n j = (m : EReal) ∧ runSum y n j = ((∑ s ∈ Finset.range n, Real.exp (Y s - m) : ℝ) : EReal) := by
  induction n with
  | zero =>
    refine ⟨Target.num 0xF149F2CA#32, (Target.num_coe 0xF149F2CA#32 (by decide) : _), ?_⟩
    show Ideal.ofBits .f32 0x00000000#32 = _
    rw [Target.num_coe _ (by decide), Target.num_zero, Finset.sum_range_zero]
  | succ n ih =>
    obtain ⟨m, h1, h2⟩ := ih fun s hs => hy s (by omega)
    refine ⟨max m (Y n), ?_, ?_⟩
    · show max (runMax y n j) (y n j) = _
      rw [h1, hy n (by omega), Target.max_real]
    · show runSum y n j * Ideal.exp (runMax y n j - max (runMax y n j) (y n j)) + Ideal.exp (y n j - max (runMax y n j) (y n j)) = _
      rw [h1, h2, hy n (by omega), Target.max_real, ← EReal.coe_sub, ← EReal.coe_sub, Ideal.exp_coe, Ideal.exp_coe, ← EReal.coe_mul,
        ← EReal.coe_add, Finset.sum_range_succ, Finset.sum_mul]
      congr 2
      refine Finset.sum_congr rfl fun s _ => ?_
      rw [← Real.exp_add]
      congr 1
      ring

/-! ## The block -/

section Block

variable {q : FVec Ideal S8x32 .f32} {h : FVec Ideal S8x1 .f32} {m : FVec Ideal S32x128 .f32} {v c : FVec Ideal S1x128 .f32}
  {k0 k1 k2 : BitVec 32} {cc : Wd} {b : BitVec 32}
  {Q : Fin 32 → EReal} {H : EReal} {M : Fin 128 → Fin 32 → EReal} {V : Fin 128 → EReal} {z : Fin 8 → Fin 128 → Fin 32 → ℝ} {r : Fin 8}

/-- The prototypes' variances, along a row. -/
theorem protoVar_entry (hv : ∀ l, v (ix2 0 l) = V l) (l : Fin 128) : protoVar v (ix2 r l) = V l :=
  (alongRows _ _ r l).trans (hv l)

/-- The query's variance, along its row. -/
theorem queryVar_entry (hh : h (ix2 r 0) = H) (l : Fin 128) : queryVar h (ix2 r l) = Ideal.exp H := by
  refine (alongColumns _ _ r l).trans ?_
  show Ideal.exp (h (ix2 r 0)) = _
  rw [hh]

/-- The variances of the query and a prototype together. -/
theorem bothVar_entry (hh : h (ix2 r 0) = H) (hv : ∀ l, v (ix2 0 l) = V l) (l : Fin 128) :
    bothVar h v (ix2 r l) = Target.vsum H V l := by
  show queryVar h (ix2 r l) + protoVar v (ix2 r l) = _
  rw [queryVar_entry hh, protoVar_entry hv]
  rfl

/-- One over them. -/
theorem recipVar_entry (hh : h (ix2 r 0) = H) (hv : ∀ l, v (ix2 0 l) = V l) (l : Fin 128) :
    recipVar h v (ix2 r l) = Ideal.div 1 (Target.vsum H V l) := by
  show Ideal.div (Ideal.ofBits .f32 0x3F800000#32) (bothVar h v (ix2 r l)) = _
  rw [bothVar_entry hh hv, Target.one_bits]

/-- The spread of the product of the query and a prototype, with the root of two. -/
theorem spread_entry (hV : ∀ l, 0 < V l) (hh : h (ix2 r 0) = H) (hv : ∀ l, v (ix2 0 l) = V l) (l : Fin 128) :
    spread h v (ix2 r l) = Target.rt2 * Ideal.sqrt (Ideal.div (Ideal.exp H * V l) (Target.vsum H V l)) := by
  show Ideal.ofBits .f32 0x3FB504F3#32 * Ideal.sqrt (queryVar h (ix2 r l) * protoVar v (ix2 r l) * recipVar h v (ix2 r l)) = _
  rw [queryVar_entry hh, protoVar_entry hv, recipVar_entry hh hv, Target.mul_recip _ (Target.vsum_pos hV l).ne']

/-- A coordinate below 32 is itself modulo 32. -/
theorem last_column (d : Fin 32) : Fin.ofNat 32 d.val = d := Fin.ext (Nat.mod_eq_of_lt d.isLt)

/-- The mass of the product of the query and a prototype. -/
theorem mass_entry (hV : ∀ l, 0 < V l) (hq : ∀ d, q (ix2 r d) = Q d) (hh : h (ix2 r 0) = H)
    (hm : ∀ d l, m (ix2 d l) = M l d) (hv : ∀ l, v (ix2 0 l) = V l) (l : Fin 128) :
    mass q h m v (ix2 r l) = Target.mass Q H M V l := by
  have hs : squares (fun d => subf (colB d q) (rowB d m)) 32 (ix2 r l) = ∑ d, (Q d - M l d) * (Q d - M l d) := by
    rw [squares_apply, Finset.sum_range]
    refine Finset.sum_congr rfl fun d _ => ?_
    show (q (ix2 r (Fin.ofNat 32 d.val)) - m (ix2 (Fin.ofNat 32 d.val) l)) * (q (ix2 r (Fin.ofNat 32 d.val)) - m (ix2 (Fin.ofNat 32 d.val) l)) = _
    rw [last_column, hq, hm]
  show Target.cnst - Target.sixteen * Ideal.log (bothVar h v (ix2 r l)) -
    Target.half * squares (fun d => subf (colB d q) (rowB d m)) 32 (ix2 r l) * recipVar h v (ix2 r l) = _
  rw [hs, recipVar_entry hh hv, bothVar_entry hh hv, Target.mul_recip _ (Target.vsum_pos hV l).ne']
  rfl

/-- A coordinate of a sample less its prototype's. -/
theorem sample_entry (hV : ∀ l, 0 < V l) (hq : ∀ d, q (ix2 r d) = Q d) (hh : h (ix2 r 0) = H)
    (hm : ∀ d l, m (ix2 d l) = M l d) (hv : ∀ l, v (ix2 0 l) = V l) (s : Fin 8) (d : Fin 32) (l : Fin 128)
    (hz : z s l d = Target.gauss (Target.bits k0 k1 k2 (cc (ix3 (Fin.ofNat 8 (d.val % 8)) r l) +
      (b + BitVec.ofNat 32 (s.val * 4096) + BitVec.ofNat 32 (d.val / 8 * 8))))) :
    sample q h m v k0 k1 k2 cc b s.val d.val (ix2 r l) = Target.dist Q H M V z s l d := by
  show ((q (ix2 r (Fin.ofNat 32 d.val)) * protoVar v (ix2 r l) + m (ix2 (Fin.ofNat 32 d.val) l) * queryVar h (ix2 r l)) * recipVar h v (ix2 r l)
    - m (ix2 (Fin.ofNat 32 d.val) l)) + spread h v (ix2 r l) * noise (F := Ideal) _ (ix3 (Fin.ofNat 8 (d.val % 8)) r l) = _
  rw [noise_entry, hash_entry, last_column, hq, hm, queryVar_entry hh, protoVar_entry hv, recipVar_entry hh hv, spread_entry hV hh hv,
    Target.mul_recip _ (Target.vsum_pos hV l).ne']
  unfold Target.dist
  rw [hz, mul_left_comm, ← mul_assoc, sub_eq_add_neg, sub_eq_add_neg, add_right_comm]
  rfl

/-- A sample's density under a prototype. -/
theorem dens_entry (hV : ∀ l, 0 < V l) (hq : ∀ d, q (ix2 r d) = Q d) (hh : h (ix2 r 0) = H)
    (hm : ∀ d l, m (ix2 d l) = M l d) (hv : ∀ l, v (ix2 0 l) = V l)
    (hc : ∀ l, c (ix2 0 l) = Target.cnst - Target.sixteen * Ideal.log (V l))
    (hz : ∀ s l d, z s l d = Target.gauss (Target.bits k0 k1 k2 (cc (ix3 (Fin.ofNat 8 (d.val % 8)) r l) +
      (b + BitVec.ofNat 32 (s.val * 4096) + BitVec.ofNat 32 (d.val / 8 * 8))))) (s : Fin 8) (l : Fin 128) :
    dens c (squares (sample q h m v k0 k1 k2 cc b s.val) 32) (protoVar v) (ix2 r l) = Target.dens Q H M V z s l := by
  show broadcastTo S8x128 c broadcasts_S1x128_S8x128 (ix2 r l) - Ideal.div (Ideal.ofBits .f32 0x3F000000#32 *
    squares (sample q h m v k0 k1 k2 cc b s.val) 32 (ix2 r l)) (protoVar v (ix2 r l)) = _
  rw [alongRows, hc, protoVar_entry hv, squares_apply, Finset.sum_range]
  unfold Target.dens
  rw [Finset.sum_congr rfl fun d _ => by rw [sample_entry hV hq hh hm hv s d l (hz s l d)]]

/-- Minus the logarithm of a sample's density under all prototypes, a real where the mass of the product with one of them is not minus
    infinity. -/
theorem sampleLse_entry (hV : ∀ l, 0 < V l) (hq : ∀ d, q (ix2 r d) = Q d) (hh : h (ix2 r 0) = H)
    (hm : ∀ d l, m (ix2 d l) = M l d) (hv : ∀ l, v (ix2 0 l) = V l)
    (hc : ∀ l, c (ix2 0 l) = Target.cnst - Target.sixteen * Ideal.log (V l))
    (hz : ∀ s l d, z s l d = Target.gauss (Target.bits k0 k1 k2 (cc (ix3 (Fin.ofNat 8 (d.val % 8)) r l) +
      (b + BitVec.ofNat 32 (s.val * 4096) + BitVec.ofNat 32 (d.val / 8 * 8))))) {l : Fin 128} (hl : Target.mass Q H M V l ≠ ⊥) (s : Fin 8) :
    ∃ t : ℝ, Target.denom Q H M V z s = t ∧ sampleLse q h m v c k0 k1 k2 cc b s.val (ix2 r 0) = ((-t : ℝ) : EReal) := by
  have e := dens_entry hV hq hh hm hv hc hz s
  obtain ⟨t, h1, h2⟩ := negLse_real (dens c (squares (sample q h m v k0 k1 k2 cc b s.val) 32) (protoVar v)) r
    (fun l => (e l).trans_ne (Target.dens_ne_top hV s l)) (l := l) ((e l).trans_ne (Target.dens_ne_bot hV l hl s))
  exact ⟨t, (congrArg Ideal.log (Finset.sum_congr rfl fun l _ => congrArg Ideal.exp (e l).symm)).trans h1, h2⟩

/-- The block's results are the target's logits. -/
theorem block_entry (hV : ∀ l, 0 < V l) (hq : ∀ d, q (ix2 r d) = Q d) (hh : h (ix2 r 0) = H)
    (hm : ∀ d l, m (ix2 d l) = M l d) (hv : ∀ l, v (ix2 0 l) = V l)
    (hc : ∀ l, c (ix2 0 l) = Target.cnst - Target.sixteen * Ideal.log (V l))
    (hz : ∀ s l d, z s l d = Target.gauss (Target.bits k0 k1 k2 (cc (ix3 (Fin.ofNat 8 (d.val % 8)) r l) +
      (b + BitVec.ofNat 32 (s.val * 4096) + BitVec.ofNat 32 (d.val / 8 * 8))))) (l : Fin 128) :
    block q h m v c k0 k1 k2 cc b (ix2 r l) = Target.logit Q H M V z l := by
  show mass q h m v (ix2 r l) + broadcastTo S8x128 _ broadcasts_S8x1_S8x128 (ix2 r l) = _
  rw [alongColumns, mass_entry hV hq hh hm hv]
  unfold Target.logit
  by_cases hl : Target.mass Q H M V l = ⊥
  · rw [hl, EReal.bot_add, EReal.bot_add, EReal.bot_sub]
  choose t h1 h2 using sampleLse_entry hV hq hh hm hv hc hz hl
  obtain ⟨u, h3, h4⟩ := run_real (sampleLse q h m v c k0 k1 k2 cc b) (fun s => -t (Fin.ofNat 8 s)) (ix2 r 0) 8
    fun s hs => (h2 ⟨s, hs⟩).trans (by rw [show Fin.ofNat 8 s = ⟨s, hs⟩ from Fin.ext (Nat.mod_eq_of_lt hs)])
  rw [Finset.sum_range] at h4
  have e : ∀ s : Fin 8, Fin.ofNat 8 s.val = s := fun s => Fin.ext (Nat.mod_eq_of_lt s.isLt)
  simp only [e] at h4
  show _ + (Ideal.log (runSum (sampleLse q h m v c k0 k1 k2 cc b) 8 (ix2 r 0)) + runMax (sampleLse q h m v c k0 k1 k2 cc b) 8 (ix2 r 0)
    - Target.log8) = _
  rw [h3, h4, Target.log_real _ (Finset.sum_pos (fun _ _ => Real.exp_pos _) ⟨0, Finset.mem_univ _⟩), ← EReal.coe_add,
    Target.log_sum_shift (fun s : Fin 8 => -t s), sub_eq_add_neg, sub_eq_add_neg, ← add_assoc]
  simp only [h1, ← EReal.coe_neg, Ideal.exp_coe, Target.sum_real]
  rw [Target.log_real _ (Finset.sum_pos (fun _ _ => Real.exp_pos _) ⟨0, Finset.mem_univ _⟩)]

end Block

end Cert.Words

end
-- ==== Proof.KerProto.lean ====
module

public import proofs.«01_k».proof.Proof.KerBlock

@[expose] public section

noncomputable section

/-! The kernel's prototypes, its counters and its keys. -/

namespace Cert.Words

open Cert.KernelIdeal Cert.KernelIdeal.Gen Idealize.ShloMosaic

section Proto

variable {x : FVec Ideal S1x8x32x128 .f32} {v : FVec Ideal S1x128 .f32} {g : FVec Ideal S8x128 .f32} {e : EReal}
  {S : Fin 8 → Fin 128 → Fin 34 → EReal}

/-- A support's precision. -/
theorem prec_entry (hv : ∀ l, v (ix2 0 l) = Ideal.exp e) (hg : ∀ s l, g (ix2 s l) = S s l 33)
    (s : Fin 8) (l : Fin 128) : prec v g (ix2 s l) = Ideal.div 1 (Target.varS e S s l) := by
  show Ideal.div (Ideal.ofBits .f32 0x3F800000#32) (broadcastTo S8x128 v broadcasts_S1x128_S8x128 (ix2 s l) + Ideal.exp (g (ix2 s l))) = _
  rw [alongRows, hv, hg, Target.one_bits]
  rfl

/-- The index with the one coordinate `l`. -/
def lane (l : Fin 128) : S128.Idx := fun a => match a with | ⟨0, _⟩ => l

/-- The entries that a reduction along the supports takes for column `l` are that column's. -/
theorem lift_column (l : Fin 128) (k : Fin 8) : (reduces_S8x128_S128).lift (lane l) k = ix2 k l := by
  funext a
  fin_cases a <;> rfl

/-- A vector of 128 as a row, at a column. -/
theorem row_cast {α : Type} (y : S128.Idx → α) (h : S128.ShapeCasts S1x128) (l : Fin 128) : shapeCast S1x128 y h (ix2 0 l) = y (lane l) :=
  shapeCast_apply y h (ix2 0 l) (lane l) (by
    rw [Shape.rowMajor_val_one, Shape.rowMajor_val_two]
    show l.val = 0 * 128 + l.val
    omega)

/-- One over the supports' precisions. -/
theorem postVar_entry (hv : ∀ l, v (ix2 0 l) = Ideal.exp e) (hg : ∀ s l, g (ix2 s l) = S s l 33)
    (l : Fin 128) : postVar v g (ix2 0 l) = Target.newVar e S l := by
  have hs : (multiReduction .add [0] S128 (prec v g) 0x00000000#32 reduces_S8x128_S128) (lane l)
      = ∑ s, Ideal.div 1 (Target.varS e S s l) := by
    rw [Ideal.multiReduction_add_single]
    exact Finset.sum_congr rfl fun k _ => (congrArg (prec v g) (lift_column l k)).trans (prec_entry hv hg k l)
  show Ideal.div (Ideal.ofBits .f32 0x3F800000#32) (shapeCast S1x128 (multiReduction .add [0] S128 (prec v g) 0x00000000#32
    reduces_S8x128_S128) shapeCasts_S128_S1x128 (ix2 0 l)) = _
  rw [row_cast, hs, Target.one_bits]
  rfl

/-- The prototypes' variances. -/
theorem protoVars_entry (he : e ≠ ⊥) (hv : ∀ l, v (ix2 0 l) = Ideal.exp e) (hg : ∀ s l, g (ix2 s l) = S s l 33)
    (l : Fin 128) : protoVars v g (ix2 0 l) = Target.pvar e S l := by
  show v (ix2 0 l) + postVar v g (ix2 0 l) = _
  rw [hv, postVar_entry hv hg, Target.pvar_sum he]

/-- The prototypes' part of a density that no sample changes. -/
theorem protoConst_entry (he : e ≠ ⊥) (hv : ∀ l, v (ix2 0 l) = Ideal.exp e) (hg : ∀ s l, g (ix2 s l) = S s l 33)
    (l : Fin 128) : protoConst v g (ix2 0 l) = Target.cnst - Target.sixteen * Ideal.log (Target.pvar e S l) := by
  show Target.cnst - Target.sixteen * Ideal.log (protoVars v g (ix2 0 l)) = _
  rw [protoVars_entry he hv hg]

/-- The supports' means, weighted and added up. -/
theorem weighted_entry (hx : ∀ s d l, x (ix4 0 s d l) = S s l ⟨1 + d.val, by omega⟩) (w : FVec Ideal S8x128 .f32)
    (d : Fin 32) (l : Fin 128) (n : ℕ) :
    weighted x w n (ix2 d l) = ∑ s ∈ Finset.range n, S (Fin.ofNat 8 s) l ⟨1 + d.val, by omega⟩ * w (ix2 (Fin.ofNat 8 s) l) := by
  induction n with
  | zero => exact Target.zero_bits
  | succ n ih =>
    show weighted x w n (ix2 d l) + x (ix4 0 (Fin.ofNat 8 n) d l) * w (ix2 (Fin.ofNat 8 n) l) = _
    rw [ih, hx, Finset.sum_range_succ]

/-- A row repeated along the coordinates, at an entry. -/
theorem means_broadcast {α : Type} (y : S1x128.Idx → α) (h : S1x128.Broadcasts S32x128) (d : Fin 32) (l : Fin 128) :
    broadcastTo S32x128 y h (ix2 d l) = y (ix2 0 l) := by
  refine congrArg y (funext fun a => ?_)
  fin_cases a
  · exact Fin.ext (by simp [ix2, S1x128])
  · exact Fin.ext (by simp [ix2, S1x128])

/-- The prototypes' means. -/
theorem protoMeans_entry (he : e ≠ ⊥) (hx : ∀ s d l, x (ix4 0 s d l) = S s l ⟨1 + d.val, by omega⟩)
    (hv : ∀ l, v (ix2 0 l) = Ideal.exp e) (hg : ∀ s l, g (ix2 s l) = S s l 33) (d : Fin 32) (l : Fin 128) :
    protoMeans x v g (ix2 d l) = Target.pmean e S l d := by
  have e' : ∀ s : Fin 8, Fin.ofNat 8 s.val = s := fun s => Fin.ext (Nat.mod_eq_of_lt s.isLt)
  show weighted x (prec v g) 8 (ix2 d l) * broadcastTo S32x128 (postVar v g) broadcasts_S1x128_S32x128 (ix2 d l) = _
  rw [weighted_entry hx, Finset.sum_range, means_broadcast, postVar_entry hv hg, mul_comm]
  unfold Target.pmean
  refine congrArg _ (Finset.sum_congr rfl fun s _ => ?_)
  rw [e', prec_entry hv hg, Target.mul_recip _ (Target.varS_pos he S s l).ne']

end Proto

/-! ## Keys and counters -/

/-- The first key word of a grid point is its half's. -/
theorem key0_half : ∀ g : Fin 16, key0 (BitVec.ofNat 32 g.val) = Target.key0 ⟨g.val / 8, by omega⟩ := by decide +kernel
/-- The second key word of a grid point is its half's. -/
theorem key1_half : ∀ g : Fin 16, key1 (BitVec.ofNat 32 g.val) = Target.key1 ⟨g.val / 8, by omega⟩ := by decide +kernel

/-- The third key word of a grid point is made of its half's two. -/
theorem key2_half (g : Fin 16) : key2 (BitVec.ofNat 32 g.val)
    = Target.key0 ⟨g.val / 8, by omega⟩ ^^^ Target.key1 ⟨g.val / 8, by omega⟩ ^^^ 466688986#32 := by
  rw [← key0_half g, ← key1_half g]
  rfl

/-- A grid point's first counter goes by its query's number. -/
theorem base_sample : ∀ g : Fin 16, base (BitVec.ofNat 32 g.val) = BitVec.ofNat 32 (g.val % 8 * 4194304) := by decide +kernel

/-- A trip's first counter, from the grid point's. -/
theorem trip_counter : ∀ k : Fin 16, Scalar.muli (Scf.iv 0#32 1#32 k.val) 262144#32 = BitVec.ofNat 32 (k.val * 262144) := by decide +kernel

/-- The counter of an entry, from the block's: the coordinate within its chunk, the row and the column. -/
theorem offsets_entry (a r : Fin 8) (l : Fin 128) : offsets (ix3 a r l) = BitVec.ofNat 32 (a.val + 32768 * r.val + 32 * l.val) := by
  show BitVec.ofNat 32 (0 * 8 + a.val) + 32768#32 * BitVec.ofNat 32 (0 * 8 + r.val) + 32#32 * BitVec.ofNat 32 (0 * 128 + l.val) = _
  simp only [zero_mul, zero_add, BitVec.ofNat_add, BitVec.ofNat_mul]

/-- The counter of an entry: row `t` of the query's 128, sample `s`, class `l`, coordinate `d`. -/
theorem counter_entry (g : Fin 16) (t : Fin 128) (s : Fin 8) (l : Fin 128) (d : Fin 32) :
    offsets (ix3 (Fin.ofNat 8 (d.val % 8)) ⟨t.val % 8, Nat.mod_lt _ (by omega)⟩ l)
      + (Scalar.addi (base (BitVec.ofNat 32 g.val)) (Scalar.muli (Scf.iv 0#32 1#32 (t.val / 8)) 262144#32)
          + BitVec.ofNat 32 (s.val * 4096) + BitVec.ofNat 32 (d.val / 8 * 8))
      = Target.counter ⟨g.val % 8, Nat.mod_lt _ (by omega)⟩ t s l d := by
  rw [offsets_entry, base_sample, trip_counter ⟨t.val / 8, by omega⟩]
  unfold Target.counter Scalar.addi
  show BitVec.ofNat 32 (d.val % 8 % 8 + 32768 * (t.val % 8) + 32 * l.val) + (BitVec.ofNat 32 (g.val % 8 * 4194304)
    + BitVec.ofNat 32 (t.val / 8 * 262144) + BitVec.ofNat 32 (s.val * 4096) + BitVec.ofNat 32 (d.val / 8 * 8)) = _
  simp only [← BitVec.ofNat_add]
  congr 1
  omega

/-- The kernel's block at half `h`, sample `b`, row `t` and class `l` is the target's result. -/
theorem block_result {x : FVec Ideal S1x8x32x128 .f32} {v : FVec Ideal S1x128 .f32} {f : FVec Ideal S8x128 .f32}
    {y : FVec Ideal S1x128x32 .f32} {u : FVec Ideal S1x128x1 .f32} {e : EReal} {P : Fin 2 → Fin 8 → Fin 128 → Fin 34 → EReal} (g : Fin 16)
    (he : e ≠ ⊥)
    (hv : ∀ l, v (ix2 0 l) = Ideal.exp e)
    (hy : ∀ t d, y (ix3 0 t d) = P ⟨g.val / 8, by omega⟩ ⟨g.val % 8, by omega⟩ t ⟨1 + d.val, by omega⟩)
    (hu : ∀ t, u (ix3 0 t 0) = P ⟨g.val / 8, by omega⟩ ⟨g.val % 8, by omega⟩ t 33)
    (hx : ∀ s d l, x (ix4 0 s d l) = P (Fin.rev ⟨g.val / 8, by omega⟩) s l ⟨1 + d.val, by omega⟩)
    (hf : ∀ s l, f (ix2 s l) = P (Fin.rev ⟨g.val / 8, by omega⟩) s l 33) (t l : Fin 128) :
    block (tripMeans (t.val / 8) y) (tripVars (t.val / 8) u) (protoMeans x v f) (protoVars v f) (protoConst v f)
      (key0 (BitVec.ofNat 32 g.val)) (key1 (BitVec.ofNat 32 g.val)) (key2 (BitVec.ofNat 32 g.val)) offsets
      (Scalar.addi (base (BitVec.ofNat 32 g.val)) (Scalar.muli (Scf.iv 0#32 1#32 (t.val / 8)) 262144#32))
      (ix2 ⟨t.val % 8, Nat.mod_lt _ (by omega)⟩ l)
      = Target.result e P ⟨g.val / 8, by omega⟩ ⟨g.val % 8, by omega⟩ t l := by
  have ht : Fin.ofNat 128 (8 * (t.val / 8) + t.val % 8) = t := Fin.ext (by
    show (8 * (t.val / 8) + t.val % 8) % 128 = t.val
    omega)
  refine block_entry (fun l => Target.pvar_pos he _ l) (fun d => ?_) ?_ (fun d l => protoMeans_entry he hx hv hf d l)
    (fun l => protoVars_entry he hv hf l) (fun l => protoConst_entry he hv hf l) (fun s l d => ?_) l
  · show y (ix3 0 (Fin.ofNat 128 (8 * (t.val / 8) + t.val % 8)) d) = _
    rw [ht, hy]
  · show u (ix3 0 (Fin.ofNat 128 (8 * (t.val / 8) + t.val % 8)) 0) = _
    rw [ht, hu]
  · rw [key0_half, key1_half, key2_half, counter_entry]

end Cert.Words

end
-- ==== Proof.KerArray.lean ====
module

public import proofs.«01_k».proof.Proof.KerProto
public import proofs.«01_k».proof.Proof.Gen.KernelIdeal.Value
public import Idealize.ShloMosaic.Lib.Pipeline.ValueKit
public import Idealize.ShloMosaic.Lib.Claim

@[expose] public section

set_option maxRecDepth 16384

noncomputable section

/-! The kernel's result, entry by entry of the whole array. -/

namespace Cert.KernelIdeal.Gen

open Cert.KernelIdeal Idealize.ShloMosaic Idealize.ShloMosaic.TcCoe Idealize.SL.Sem

/-! ## The parameters as the region finds them -/

section Arrangement

variable {α : Type} (X : S2048x34.Idx → α)

/-- The parameters by group of rows. -/
def grouped : S16x128x34.Idx → α := shapeCast S16x128x34 X shapeCasts_S2048x34_S16x128x34

/-- Row `t` of group `k` is row `128 k + t` of the parameters. -/
theorem grouped_apply (k : Fin 16) (t : Fin 128) (f : Fin 34) : grouped X (ix3 k t f) = X (ix2 ⟨k.val * 128 + t.val, by omega⟩ f) :=
  shapeCast_apply X _ _ _ (by
    rw [Shape.rowMajor_val_two, Shape.rowMajor_val_three]
    show (k.val * 128 + t.val) * 34 + f.val = (k.val * 128 + t.val) * 34 + f.val
    rfl)

/-- The eight groups of the parameters from group `o` on, as a half of its own. -/
def half (o : ℕ) (h : S16x128x34.Slices ![o, 0, 0] S8x128x34) : S1x8x128x34.Idx → α :=
  broadcastInDim S1x8x128x34 ![1, 2, 3] bcast_S8x128x34_S1x8x128x34_1_2_3 (extractStridedSlice S8x128x34 ![o, 0, 0] (grouped X) h)

/-- Row `t` of group `s` of the half that starts at group `o` is row `128 (o + s) + t` of the parameters. -/
theorem half_apply (o : ℕ) (ho : o ≤ 8) (h : S16x128x34.Slices ![o, 0, 0] S8x128x34) (z : Fin 1) (s : Fin 8) (t : Fin 128) (f : Fin 34) :
    half X o h (ix4 z s t f) = X (ix2 ⟨(o + s.val) * 128 + t.val, by omega⟩ f) := by
  unfold half
  rw [broadcastInDim_apply _ _ _ (ix4 z s t f) (ix3 s t f) (fun a => by fin_cases a <;> rfl),
    extractStridedSlice_apply _ _ _ (ix3 s t f) (ix3 ⟨o + s.val, by omega⟩ t f) (fun a => by fin_cases a <;> simp [ix3]),
    grouped_apply]

/-- The two halves of the parameters, the second before the first. -/
def swapped : S2x8x128x34.Idx → α :=
  concatenate S2x8x128x34 0
    [⟨S1x8x128x34, half X 8 slices_S16x128x34_S8x128x34_8_0_0⟩, ⟨S1x8x128x34, half X 0 slices_S16x128x34_S8x128x34_0_0_0⟩]
    concatenates_S1x8x128x34_S1x8x128x34_S2x8x128x34_d0

/-- Half `h` of the swapped halves is the parameters' other half. -/
theorem swapped_apply (h : Fin 2) (s : Fin 8) (t : Fin 128) (f : Fin 34) :
    swapped X (ix4 h s t f) = X (ix2 ⟨((Fin.rev h).val * 8 + s.val) * 128 + t.val, by have := (Fin.rev h).isLt; omega⟩ f) := by
  unfold swapped
  match h with
  | ⟨0, hh⟩ =>
    refine (concatenate_pair_apply_left (s₁ := S1x8x128x34) (s₂ := S1x8x128x34) (t := S2x8x128x34) 0
      (half X 8 slices_S16x128x34_S8x128x34_8_0_0) (half X 0 slices_S16x128x34_S8x128x34_0_0_0)
      concatenates_S1x8x128x34_S1x8x128x34_S2x8x128x34_d0 (ix4 ⟨0, hh⟩ s t f) rfl (ix4 (0 : Fin 1) s t f) ?_).trans ((half_apply X 8 (le_refl _) _ 0 s t f).trans ?_)
    · intro a
      fin_cases a <;> rfl
    · rfl
  | ⟨1, hh⟩ =>
    refine (concatenate_pair_apply_right (s₁ := S1x8x128x34) (s₂ := S1x8x128x34) (t := S2x8x128x34) 0
      (half X 8 slices_S16x128x34_S8x128x34_8_0_0) (half X 0 slices_S16x128x34_S8x128x34_0_0_0)
      concatenates_S1x8x128x34_S1x8x128x34_S2x8x128x34_d0 (ix4 ⟨1, hh⟩ s t f) rfl rfl (ix4 (0 : Fin 1) s t f) ?_ rfl).trans ((half_apply X 0 (by omega) _ 0 s t f).trans ?_)
    · intro a ha
      fin_cases a
      · exact absurd rfl ha
      all_goals rfl
    · rfl

/-- The supports' means with their last two axes exchanged: features 1 to 32 of the swapped halves. -/
theorem means_apply (h : Fin 2) (s : Fin 8) (d : Fin 32) (l : Fin 128) :
    transpose S2x8x32x128 [0, 1, 3, 2] (extractStridedSlice S2x8x128x32 ![0, 0, 0, 1] (swapped X) slices_S2x8x128x34_S2x8x128x32_0_0_0_1)
      transposes_S2x8x128x32_S2x8x32x128_0_1_3_2 (ix4 h s d l) = swapped X (ix4 h s l ⟨1 + d.val, by omega⟩) := by
  rw [transpose_apply _ _ _ (ix4 h s d l) (ix4 h s l d) (fun a => by fin_cases a <;> rfl)]
  exact extractStridedSlice_apply _ _ _ (ix4 h s l d) _ (fun a => by fin_cases a <;> simp [ix4])

/-- The supports' logarithmic variances: feature 33 of the swapped halves. -/
theorem logs_apply (h : Fin 2) (s : Fin 8) (l : Fin 128) :
    shapeCast S2x8x128 (extractStridedSlice S2x8x128x1 ![0, 0, 0, 33] (swapped X) slices_S2x8x128x34_S2x8x128x1_0_0_0_33)
      shapeCasts_S2x8x128x1_S2x8x128 (ix3 h s l) = swapped X (ix4 h s l 33) := by
  rw [shapeCast_apply _ _ (ix3 h s l) (ix4 h s l (0 : Fin 1)) (by
    rw [Shape.rowMajor_val_four, Shape.rowMajor_val_three]
    show ((h.val * 8 + s.val) * 128 + l.val) * 1 + 0 = (h.val * 8 + s.val) * 128 + l.val
    omega)]
  exact extractStridedSlice_apply _ _ _ (ix4 h s l (0 : Fin 1)) _ (fun a => by fin_cases a <;> simp [ix4])

end Arrangement

variable (m : (ℓ : Loc nD τ sig) → Buf (Elt Ideal) ℓ) (c : Dev nD)

/-- The kernel's first operand is the exponential of the variance's logarithm, in every column. -/
theorem entry_v1 : V m c main_v1 = (broadcastInDim S1x128 ![] bcast_S_S1x128 (Host.exp (F := Ideal) (φ := .f32) (s := S_) (m ((c : Thread nD τ).loc main_arg2))) : FVec Ideal S1x128 .f32) := by
  entry_read; rfl

/-- The kernel's second operand is features 1 to 32 of the parameters by group: the queries' means. -/
theorem entry_v3 : V m c main_v3 = extractStridedSlice S16x128x32 ![0, 0, 1] (grouped (m ((c : Thread nD τ).loc main_arg0))) slices_S16x128x34_S16x128x32_0_0_1 := by
  entry_read; rfl

/-- The kernel's third operand is feature 33 of the parameters by group: the queries' logarithmic variances. -/
theorem entry_v4 : V m c main_v4 = extractStridedSlice S16x128x1 ![0, 0, 33] (grouped (m ((c : Thread nD τ).loc main_arg0))) slices_S16x128x34_S16x128x1_0_0_33 := by
  entry_read; rfl

/-- The kernel's fourth operand is the supports' means. -/
theorem entry_v11 : V m c main_v11 = transpose S2x8x32x128 [0, 1, 3, 2] (extractStridedSlice S2x8x128x32 ![0, 0, 0, 1] (swapped (m ((c : Thread nD τ).loc main_arg0))) slices_S2x8x128x34_S2x8x128x32_0_0_0_1)
      transposes_S2x8x128x32_S2x8x32x128_0_1_3_2 := by
  entry_read; rfl

/-- The kernel's fifth operand is the supports' logarithmic variances. -/
theorem entry_v13 : V m c main_v13 = shapeCast S2x8x128 (extractStridedSlice S2x8x128x1 ![0, 0, 0, 33] (swapped (m ((c : Thread nD τ).loc main_arg0))) slices_S2x8x128x34_S2x8x128x1_0_0_0_33)
      shapeCasts_S2x8x128x1_S2x8x128 := by
  entry_read; rfl

/-- The windows' blocks along the grid. -/
theorem index_facts : ∀ t : Fin grid0.N, win0_0.index t = ![0, 0] ∧ win0_1.index t = ![t.val, 0, 0] ∧ win0_2.index t = ![t.val, 0, 0]
    ∧ win0_3.index t = ![t.val / 8, 0, 0, 0] ∧ win0_4.index t = ![t.val / 8, 0, 0] ∧ win0_5.index t = ![t.val, 0] ∧ (grid0.coords t 0).val = t.val := by
  decide +kernel

variable {m c} {p : Fin 2048 → Fin 34 → EReal} {e : EReal}

/-- Every grid point's block of the first operand is the variance, in every column. -/
theorem block0 (he : ∀ i, m ((c : Thread nD τ).loc main_arg2) i = e) (t : Fin cfg0.N) (l : Fin 128) :
    iblk m c 0 t (ix2 (0 : Fin 1) l) = Ideal.exp e := by
  have h : iblk m c 0 t (ix2 (0 : Fin 1) l) = V m c main_v1 (ix2 (0 : Fin 1) l) := by
    blk_ext [iblk, (index_facts t).1]
  rw [h, entry_v1]
  show Ideal.exp (m ((c : Thread nD τ).loc main_arg2) _) = _
  rw [he]

/-- Grid point `t` has the queries' means of half `t / 8`, sample `t % 8`. -/
theorem block1 (hp : ∀ r f, m ((c : Thread nD τ).loc main_arg0) (ix2 r f) = p r f) (t : Fin 16) (r : Fin 128) (d : Fin 32) :
    iblk m c 1 t (ix3 (0 : Fin 1) r d) = Target.parts p ⟨t.val / 8, by omega⟩ ⟨t.val % 8, by omega⟩ r ⟨1 + d.val, by omega⟩ := by
  have h : iblk m c 1 t (ix3 (0 : Fin 1) r d) = V m c main_v3 (ix3 t r d) := by
    blk_ext [iblk, (index_facts t).2.1]
  rw [h, entry_v3]
  refine (extractStridedSlice_apply _ _ _ (ix3 t r d) (ix3 t r ⟨1 + d.val, by omega⟩) (fun a => by fin_cases a <;> simp [ix3])).trans ?_
  rw [grouped_apply, hp]
  refine congrArg (fun n => p n ⟨1 + d.val, by omega⟩) (Fin.ext ?_)
  show t.val * 128 + r.val = (t.val / 8 * 8 + t.val % 8) * 128 + r.val
  omega

/-- Grid point `t` has the queries' logarithmic variances of half `t / 8`, sample `t % 8`. -/
theorem block2 (hp : ∀ r f, m ((c : Thread nD τ).loc main_arg0) (ix2 r f) = p r f) (t : Fin 16) (r : Fin 128) :
    iblk m c 2 t (ix3 (0 : Fin 1) r (0 : Fin 1)) = Target.parts p ⟨t.val / 8, by omega⟩ ⟨t.val % 8, by omega⟩ r 33 := by
  have h : iblk m c 2 t (ix3 (0 : Fin 1) r (0 : Fin 1)) = V m c main_v4 (ix3 t r (0 : Fin 1)) := by
    blk_ext [iblk, (index_facts t).2.2.1]
  rw [h, entry_v4]
  refine (extractStridedSlice_apply _ _ _ (ix3 t r (0 : Fin 1)) (ix3 t r (33 : Fin 34)) (fun a => by fin_cases a <;> simp [ix3])).trans ?_
  rw [grouped_apply, hp]
  refine congrArg (fun n => p n 33) (Fin.ext ?_)
  show t.val * 128 + r.val = (t.val / 8 * 8 + t.val % 8) * 128 + r.val
  omega

/-- Grid point `t` has the supports' means of the half that `t / 8` is not. -/
theorem block3 (hp : ∀ r f, m ((c : Thread nD τ).loc main_arg0) (ix2 r f) = p r f) (t : Fin 16) (s : Fin 8) (d : Fin 32) (l : Fin 128) :
    iblk m c 3 t (ix4 (0 : Fin 1) s d l) = Target.parts p (Fin.rev ⟨t.val / 8, by omega⟩) s l ⟨1 + d.val, by omega⟩ := by
  have h : iblk m c 3 t (ix4 (0 : Fin 1) s d l) = V m c main_v11 (ix4 (⟨t.val / 8, by omega⟩ : Fin 2) s d l) := by
    blk_ext [iblk, (index_facts t).2.2.2.1]
  rw [h, entry_v11, means_apply, swapped_apply, hp]
  rfl

/-- Grid point `t` has the supports' logarithmic variances of the half that `t / 8` is not. -/
theorem block4 (hp : ∀ r f, m ((c : Thread nD τ).loc main_arg0) (ix2 r f) = p r f) (t : Fin 16) (s : Fin 8) (l : Fin 128) :
    iblk m c 4 t (ix3 (0 : Fin 1) s l) = Target.parts p (Fin.rev ⟨t.val / 8, by omega⟩) s l 33 := by
  have h : iblk m c 4 t (ix3 (0 : Fin 1) s l) = V m c main_v13 (ix3 (⟨t.val / 8, by omega⟩ : Fin 2) s l) := by
    blk_ext [iblk, (index_facts t).2.2.2.2.1]
  rw [h, entry_v13, logs_apply, swapped_apply, hp]
  rfl

/-- What a grid point leaves in its block of the result, entry by entry. -/
theorem out_table (hb : e ≠ ⊥) (he : ∀ i, m ((c : Thread nD τ).loc main_arg2) i = e)
    (hp : ∀ r f, m ((c : Thread nD τ).loc main_arg0) (ix2 r f) = p r f) (t : Fin 16) (r : Fin 128) (l : Fin 512) :
    outsAt0 m c t (ix2 r l) = Target.table e p ⟨t.val * 128 + r.val, by omega⟩ l := by
  unfold outsAt0 Target.table
  rw [out_apply, (index_facts t).2.2.2.2.2.2]
  by_cases h : l.val < 128
  · rw [dif_pos h, dif_pos h]
    refine (Words.block_result (P := Target.parts p) t hb (block0 he t) (block1 hp t) (block2 hp t) (block3 hp t)
      (fun s l => block4 hp t s l) r ⟨l.val, h⟩).trans ?_
    congr 1
    · exact Fin.ext (by show t.val / 8 = (t.val * 128 + r.val) / 1024; omega)
    · exact Fin.ext (by show t.val % 8 = (t.val * 128 + r.val) / 128 % 8; omega)
    · exact Fin.ext (by show r.val = (t.val * 128 + r.val) % 128; omega)
  · rw [dif_neg h, dif_neg h]
    rfl

/-- The kernel's result after the run, entry by entry. -/
theorem array_table (hb : e ≠ ⊥) (he : ∀ i, m ((c : Thread nD τ).loc main_arg2) i = e)
    (hp : ∀ r f, m ((c : Thread nD τ).loc main_arg0) (ix2 r f) = p r f) :
    (dats m 0 c).arrAt 5 cfg0.N = fun i : S2048x512.Idx => Target.table e p (i 0) (i 1) := by
  refine (dats m 0 c).arrAt_eq_of_covers 5 _ (by decide +kernel) fun t hf y => ?_
  blk_simp
  rw [after0_5]
  refine (congrArg (outsAt0 m c t) (ValueIdx.eq_ix2 y)).trans ((out_table hb he hp t (y 0) (y 1)).trans ?_)
  have h0 : t.val * 128 + (y 0).val = ((win0_5.blk t).view.emb y 0).val := by
    blk_simp [(index_facts t).2.2.2.2.2.1]
  have h1 : (y 1).val = ((win0_5.blk t).view.emb y 1).val := by
    blk_simp [(index_facts t).2.2.2.2.2.1]
  exact congrArg₂ (Target.table e p) (Fin.ext h0) (Fin.ext h1)

end Cert.KernelIdeal.Gen

end
-- ==== Proof.Keys.lean ====
module

public import proofs.«01_k».proof.Proof.Gen.ReferenceIdeal.Read
public import proofs.«01_k».proof.Proof.Target

@[expose] public section

set_option maxRecDepth 10000

noncomputable section

/-! The reference's hash, stage by stage gathered into the rounds: its keys and the noise's bits. -/

namespace Cert.Target

open Idealize.ShloMosaic

/-- The two shifts combined are the rotation. -/
theorem rot_fold (r s x : BitVec 32) (hr : r.toNat < 32) (hs : s.toNat < 32) (u : ArithUnit) :
    IntOp.ori (IntOp.shli u x r) (IntOp.shrui u x s) = rot r s x := by
  unfold IntOp.shli IntOp.shrui
  rw [if_pos hr, if_pos hs]; rfl

/-- The sum of the two starting words. -/
theorem start_mix (k0 k1 x : BitVec 32) : IntOp.addi (IntOp.addi 0#32 k0) (IntOp.addi x k1) = mix (start k0 k1 x) := rfl

/-- The second word after the first round. -/
theorem start_rnd (k0 k1 r s x : BitVec 32) :
    IntOp.xori (rot r s (IntOp.addi x k1)) (mix (start k0 k1 x)) = (rnd r s (start k0 k1 x)).2 := rfl

/-- The sum of the two words after a round. -/
theorem rnd_mix (r s : BitVec 32) (st : Pair) : IntOp.addi (mix st) (rnd r s st).2 = mix (rnd r s st) := rfl

/-- The second word after a round that follows a round. -/
theorem rnd_rnd (r s r' s' : BitVec 32) (st : Pair) :
    IntOp.xori (rot r s (rnd r' s' st).2) (mix (rnd r' s' st)) = (rnd r s (rnd r' s' st)).2 := rfl

/-- The sum of the two words after key words have been added. -/
theorem inj_mix (r s k j n : BitVec 32) (st : Pair) :
    IntOp.addi (IntOp.addi (mix st) k) (IntOp.addi (IntOp.addi (rnd r s st).2 j) n) = mix (inj k j n (rnd r s st)) := rfl

/-- The second word after a round that follows the addition of key words. -/
theorem inj_rnd (r s r' s' k j n : BitVec 32) (st : Pair) :
    IntOp.xori (rot r s (IntOp.addi (IntOp.addi (rnd r' s' st).2 j) n)) (mix (inj k j n (rnd r' s' st)))
      = (rnd r s (inj k j n (rnd r' s' st))).2 := rfl

/-- The hash's two words combined, after the last addition of key words. -/
theorem xori_fold (r s k j n : BitVec 32) (st : Pair) :
    IntOp.xori (IntOp.addi (mix st) k) (IntOp.addi (IntOp.addi (rnd r s st).2 j) n)
      = (inj k j n (rnd r s st)).1 ^^^ (inj k j n (rnd r s st)).2 := rfl

/-- The position counted axis by axis is the row-major position. -/
theorem counter_fold (b s r c d : ℕ) :
    IntOp.addi (IntOp.muli (IntOp.addi (IntOp.muli (IntOp.addi (IntOp.muli (IntOp.addi (IntOp.muli (IntOp.addi
      (IntOp.muli 0#32 8#32) (BitVec.ofNat 32 b)) 128#32) (BitVec.ofNat 32 r)) 8#32) (BitVec.ofNat 32 s)) 128#32)
      (BitVec.ofNat 32 c)) 32#32) (BitVec.ofNat 32 d)
      = BitVec.ofNat 32 ((((b * 128 + r) * 8 + s) * 128 + c) * 32 + d) := by
  simp [IntOp.addi, IntOp.muli, BitVec.ofNat_add, BitVec.ofNat_mul]

end Cert.Target

namespace Cert.ReferenceIdeal.Read

open Cert.ReferenceIdeal Cert.ReferenceIdeal.Gen Idealize.ShloMosaic Cert.Target

/-- The first key word of each half is the hash of the half's number. -/
theorem key_fst (i : S2.Idx) : val_main_v196 (F := Ideal) i
    = (hash 0#32 1#32 (IntOp.xori (IntOp.xori 0#32 1#32) 466688986#32) (BitVec.ofNat 32 (i 0).val)).1 := by
  simp (disch := decide) only [
    val_main_v24_apply, val_main_c_3_apply, val_main_c_4_apply, val_main_v25_apply, val_main_c_5_apply, val_main_v26_apply,
    val_main_c_6_apply, val_main_c_7_apply, val_main_v27_apply, val_main_c_8_apply, val_main_v28_apply, val_main_v29_apply,
    val_main_v30_apply, val_main_v31_apply, val_main_c_9_apply, val_main_v32_apply, val_main_v33_apply, val_main_c_10_apply,
    val_main_v34_apply, val_main_v35_apply, val_main_v36_apply, val_main_v37_apply, val_main_v38_apply, val_main_c_11_apply,
    val_main_v39_apply, val_main_v40_apply, val_main_c_12_apply, val_main_v41_apply, val_main_v42_apply, val_main_v43_apply,
    val_main_v44_apply, val_main_v45_apply, val_main_c_13_apply, val_main_v46_apply, val_main_v47_apply, val_main_c_14_apply,
    val_main_v48_apply, val_main_v49_apply, val_main_v50_apply, val_main_v51_apply, val_main_v52_apply, val_main_c_15_apply,
    val_main_v53_apply, val_main_v54_apply, val_main_c_16_apply, val_main_v55_apply, val_main_v56_apply, val_main_v57_apply,
    val_main_v58_apply, val_main_c_17_apply, val_main_v59_apply, val_main_v60_apply, val_main_v61_apply, val_main_v62_apply,
    val_main_c_18_apply, val_main_v63_apply, val_main_v64_apply, val_main_v65_apply, val_main_c_19_apply, val_main_v66_apply,
    val_main_v67_apply, val_main_c_20_apply, val_main_v68_apply, val_main_v69_apply, val_main_v70_apply, val_main_v71_apply,
    val_main_v72_apply, val_main_c_21_apply, val_main_v73_apply, val_main_v74_apply, val_main_c_22_apply, val_main_v75_apply,
    val_main_v76_apply, val_main_v77_apply, val_main_v78_apply, val_main_v79_apply, val_main_c_23_apply, val_main_v80_apply,
    val_main_v81_apply, val_main_c_24_apply, val_main_v82_apply, val_main_v83_apply, val_main_v84_apply, val_main_v85_apply,
    val_main_v86_apply, val_main_c_25_apply, val_main_v87_apply, val_main_v88_apply, val_main_c_26_apply, val_main_v89_apply,
    val_main_v90_apply, val_main_v91_apply, val_main_v92_apply, val_main_v93_apply, val_main_v94_apply, val_main_c_27_apply,
    val_main_v95_apply, val_main_v96_apply, val_main_c_28_apply, val_main_v97_apply, val_main_v98_apply, val_main_v99_apply,
    val_main_c_29_apply, val_main_v100_apply, val_main_v101_apply, val_main_c_30_apply, val_main_v102_apply, val_main_v103_apply,
    val_main_v104_apply, val_main_v105_apply, val_main_v106_apply, val_main_c_31_apply, val_main_v107_apply, val_main_v108_apply,
    val_main_c_32_apply, val_main_v109_apply, val_main_v110_apply, val_main_v111_apply, val_main_v112_apply, val_main_v113_apply,
    val_main_c_33_apply, val_main_v114_apply, val_main_v115_apply, val_main_c_34_apply, val_main_v116_apply, val_main_v117_apply,
    val_main_v118_apply, val_main_v119_apply, val_main_v120_apply, val_main_c_35_apply, val_main_v121_apply, val_main_v122_apply,
    val_main_c_36_apply, val_main_v123_apply, val_main_v124_apply, val_main_v125_apply, val_main_v126_apply, val_main_c_37_apply,
    val_main_v127_apply, val_main_v128_apply, val_main_c_38_apply, val_main_v129_apply, val_main_v130_apply, val_main_c_39_apply,
    val_main_v131_apply, val_main_v132_apply, val_main_v133_apply, val_main_c_40_apply, val_main_v134_apply, val_main_v135_apply,
    val_main_c_41_apply, val_main_v136_apply, val_main_v137_apply, val_main_v138_apply, val_main_v139_apply, val_main_v140_apply,
    val_main_c_42_apply, val_main_v141_apply, val_main_v142_apply, val_main_c_43_apply, val_main_v143_apply, val_main_v144_apply,
    val_main_v145_apply, val_main_v146_apply, val_main_v147_apply, val_main_c_44_apply, val_main_v148_apply, val_main_v149_apply,
    val_main_c_45_apply, val_main_v150_apply, val_main_v151_apply, val_main_v152_apply, val_main_v153_apply, val_main_v154_apply,
    val_main_c_46_apply, val_main_v155_apply, val_main_v156_apply, val_main_c_47_apply, val_main_v157_apply, val_main_v158_apply,
    val_main_v159_apply, val_main_v160_apply, val_main_c_48_apply, val_main_v161_apply, val_main_v162_apply, val_main_v163_apply,
    val_main_v164_apply, val_main_c_49_apply, val_main_v165_apply, val_main_v166_apply, val_main_v167_apply, val_main_c_50_apply,
    val_main_v168_apply, val_main_v169_apply, val_main_c_51_apply, val_main_v170_apply, val_main_v171_apply, val_main_v172_apply,
    val_main_v173_apply, val_main_v174_apply, val_main_c_52_apply, val_main_v175_apply, val_main_v176_apply, val_main_c_53_apply,
    val_main_v177_apply, val_main_v178_apply, val_main_v179_apply, val_main_v180_apply, val_main_v181_apply, val_main_c_54_apply,
    val_main_v182_apply, val_main_v183_apply, val_main_c_55_apply, val_main_v184_apply, val_main_v185_apply, val_main_v186_apply,
    val_main_v187_apply, val_main_v188_apply, val_main_c_56_apply, val_main_v189_apply, val_main_v190_apply, val_main_c_57_apply,
    val_main_v191_apply, val_main_v192_apply, val_main_v193_apply, val_main_v194_apply, val_main_v195_apply, val_main_v196_apply,
    val_main_c_58_apply, val_main_v197_apply, val_main_v198_apply, val_main_c_59_apply, val_main_v199_apply, val_main_v200_apply, rot_fold, start_mix, start_rnd, rnd_mix, rnd_rnd, inj_mix, inj_rnd]
  rfl

/-- The second key word likewise. -/
theorem key_snd (i : S2.Idx) : val_main_v200 (F := Ideal) i
    = (hash 0#32 1#32 (IntOp.xori (IntOp.xori 0#32 1#32) 466688986#32) (BitVec.ofNat 32 (i 0).val)).2 := by
  simp (disch := decide) only [
    val_main_v24_apply, val_main_c_3_apply, val_main_c_4_apply, val_main_v25_apply, val_main_c_5_apply, val_main_v26_apply,
    val_main_c_6_apply, val_main_c_7_apply, val_main_v27_apply, val_main_c_8_apply, val_main_v28_apply, val_main_v29_apply,
    val_main_v30_apply, val_main_v31_apply, val_main_c_9_apply, val_main_v32_apply, val_main_v33_apply, val_main_c_10_apply,
    val_main_v34_apply, val_main_v35_apply, val_main_v36_apply, val_main_v37_apply, val_main_v38_apply, val_main_c_11_apply,
    val_main_v39_apply, val_main_v40_apply, val_main_c_12_apply, val_main_v41_apply, val_main_v42_apply, val_main_v43_apply,
    val_main_v44_apply, val_main_v45_apply, val_main_c_13_apply, val_main_v46_apply, val_main_v47_apply, val_main_c_14_apply,
    val_main_v48_apply, val_main_v49_apply, val_main_v50_apply, val_main_v51_apply, val_main_v52_apply, val_main_c_15_apply,
    val_main_v53_apply, val_main_v54_apply, val_main_c_16_apply, val_main_v55_apply, val_main_v56_apply, val_main_v57_apply,
    val_main_v58_apply, val_main_c_17_apply, val_main_v59_apply, val_main_v60_apply, val_main_v61_apply, val_main_v62_apply,
    val_main_c_18_apply, val_main_v63_apply, val_main_v64_apply, val_main_v65_apply, val_main_c_19_apply, val_main_v66_apply,
    val_main_v67_apply, val_main_c_20_apply, val_main_v68_apply, val_main_v69_apply, val_main_v70_apply, val_main_v71_apply,
    val_main_v72_apply, val_main_c_21_apply, val_main_v73_apply, val_main_v74_apply, val_main_c_22_apply, val_main_v75_apply,
    val_main_v76_apply, val_main_v77_apply, val_main_v78_apply, val_main_v79_apply, val_main_c_23_apply, val_main_v80_apply,
    val_main_v81_apply, val_main_c_24_apply, val_main_v82_apply, val_main_v83_apply, val_main_v84_apply, val_main_v85_apply,
    val_main_v86_apply, val_main_c_25_apply, val_main_v87_apply, val_main_v88_apply, val_main_c_26_apply, val_main_v89_apply,
    val_main_v90_apply, val_main_v91_apply, val_main_v92_apply, val_main_v93_apply, val_main_v94_apply, val_main_c_27_apply,
    val_main_v95_apply, val_main_v96_apply, val_main_c_28_apply, val_main_v97_apply, val_main_v98_apply, val_main_v99_apply,
    val_main_c_29_apply, val_main_v100_apply, val_main_v101_apply, val_main_c_30_apply, val_main_v102_apply, val_main_v103_apply,
    val_main_v104_apply, val_main_v105_apply, val_main_v106_apply, val_main_c_31_apply, val_main_v107_apply, val_main_v108_apply,
    val_main_c_32_apply, val_main_v109_apply, val_main_v110_apply, val_main_v111_apply, val_main_v112_apply, val_main_v113_apply,
    val_main_c_33_apply, val_main_v114_apply, val_main_v115_apply, val_main_c_34_apply, val_main_v116_apply, val_main_v117_apply,
    val_main_v118_apply, val_main_v119_apply, val_main_v120_apply, val_main_c_35_apply, val_main_v121_apply, val_main_v122_apply,
    val_main_c_36_apply, val_main_v123_apply, val_main_v124_apply, val_main_v125_apply, val_main_v126_apply, val_main_c_37_apply,
    val_main_v127_apply, val_main_v128_apply, val_main_c_38_apply, val_main_v129_apply, val_main_v130_apply, val_main_c_39_apply,
    val_main_v131_apply, val_main_v132_apply, val_main_v133_apply, val_main_c_40_apply, val_main_v134_apply, val_main_v135_apply,
    val_main_c_41_apply, val_main_v136_apply, val_main_v137_apply, val_main_v138_apply, val_main_v139_apply, val_main_v140_apply,
    val_main_c_42_apply, val_main_v141_apply, val_main_v142_apply, val_main_c_43_apply, val_main_v143_apply, val_main_v144_apply,
    val_main_v145_apply, val_main_v146_apply, val_main_v147_apply, val_main_c_44_apply, val_main_v148_apply, val_main_v149_apply,
    val_main_c_45_apply, val_main_v150_apply, val_main_v151_apply, val_main_v152_apply, val_main_v153_apply, val_main_v154_apply,
    val_main_c_46_apply, val_main_v155_apply, val_main_v156_apply, val_main_c_47_apply, val_main_v157_apply, val_main_v158_apply,
    val_main_v159_apply, val_main_v160_apply, val_main_c_48_apply, val_main_v161_apply, val_main_v162_apply, val_main_v163_apply,
    val_main_v164_apply, val_main_c_49_apply, val_main_v165_apply, val_main_v166_apply, val_main_v167_apply, val_main_c_50_apply,
    val_main_v168_apply, val_main_v169_apply, val_main_c_51_apply, val_main_v170_apply, val_main_v171_apply, val_main_v172_apply,
    val_main_v173_apply, val_main_v174_apply, val_main_c_52_apply, val_main_v175_apply, val_main_v176_apply, val_main_c_53_apply,
    val_main_v177_apply, val_main_v178_apply, val_main_v179_apply, val_main_v180_apply, val_main_v181_apply, val_main_c_54_apply,
    val_main_v182_apply, val_main_v183_apply, val_main_c_55_apply, val_main_v184_apply, val_main_v185_apply, val_main_v186_apply,
    val_main_v187_apply, val_main_v188_apply, val_main_c_56_apply, val_main_v189_apply, val_main_v190_apply, val_main_c_57_apply,
    val_main_v191_apply, val_main_v192_apply, val_main_v193_apply, val_main_v194_apply, val_main_v195_apply, val_main_v196_apply,
    val_main_c_58_apply, val_main_v197_apply, val_main_v198_apply, val_main_c_59_apply, val_main_v199_apply, val_main_v200_apply, rot_fold, start_mix, start_rnd, rnd_mix, rnd_rnd, inj_mix, inj_rnd]
  rfl

/-- The hash of zero under the key of seed one: the first half's key. -/
theorem hash_zero : Target.hash 0#32 1#32 (IntOp.xori (IntOp.xori 0#32 1#32) 466688986#32) 0#32
    = (507451445#32, 1853169794#32) := by
  simp [Target.hash, Target.four, Target.four', Target.start, Target.rnd, Target.inj, Target.mix, Target.rot, IntOp.xori]

/-- The hash of one under the key of seed one: the second half's key. -/
theorem hash_one : Target.hash 0#32 1#32 (IntOp.xori (IntOp.xori 0#32 1#32) 466688986#32) 1#32
    = (1948878966#32, 4237131848#32) := by
  simp [Target.hash, Target.four, Target.four', Target.start, Target.rnd, Target.inj, Target.mix, Target.rot, IntOp.xori]

/-- The key words of both halves. -/
theorem hash_half (h : Fin 2) : Target.hash 0#32 1#32 (IntOp.xori (IntOp.xori 0#32 1#32) 466688986#32) (BitVec.ofNat 32 h.val)
    = (key0 h, key1 h) := by
  match h with
  | 0 => rw [show BitVec.ofNat 32 (0 : Fin 2).val = 0#32 from rfl, hash_zero]; rfl
  | 1 => rw [show BitVec.ofNat 32 (1 : Fin 2).val = 1#32 from rfl, hash_one]; rfl

/-- The reference's first key word of each half. -/
theorem key0_eq (i : S2.Idx) : val_main_v196 (F := Ideal) i = key0 (i 0) :=
  (key_fst i).trans (congrArg Prod.fst (hash_half (i 0)))

/-- The reference's second key word of each half. -/
theorem key1_eq (i : S2.Idx) : val_main_v200 (F := Ideal) i = key1 (i 0) :=
  (key_snd i).trans (congrArg Prod.snd (hash_half (i 0)))

/-- The noise's bits are the hash of the element's position under its half's key. -/
theorem bits_eq (i : S2x8x128x8x128x32.Idx) : val_main_v462 (F := Ideal) i
    = bits (key0 (i 0)) (key1 (i 0)) (key0 (i 0) ^^^ key1 (i 0) ^^^ 466688986#32) (counter (i 1) (i 2) (i 3) (i 4) (i 5)) := by
  simp (disch := decide) only [
    val_main_c_63_apply, val_main_v247_apply, val_main_c_64_apply, val_main_v248_apply, val_main_v249_apply, val_main_v250_apply,
    val_main_v251_apply, val_main_c_65_apply, val_main_v252_apply, val_main_v253_apply, val_main_v254_apply, val_main_v255_apply,
    val_main_c_66_apply, val_main_v256_apply, val_main_v257_apply, val_main_v258_apply, val_main_v259_apply, val_main_c_67_apply,
    val_main_v260_apply, val_main_v261_apply, val_main_v262_apply, val_main_v263_apply, val_main_c_68_apply, val_main_v264_apply,
    val_main_v265_apply, val_main_v266_apply, val_main_v267_apply, val_main_c_69_apply, val_main_v268_apply, val_main_v269_apply,
    val_main_c_70_apply, val_main_v270_apply, val_main_v271_apply, val_main_v272_apply, val_main_v273_apply, val_main_v274_apply,
    val_main_v275_apply, val_main_v276_apply, val_main_v277_apply, val_main_v278_apply, val_main_v279_apply, val_main_v280_apply,
    val_main_v281_apply, val_main_v282_apply, val_main_c_71_apply, val_main_v283_apply, val_main_v284_apply, val_main_c_72_apply,
    val_main_v285_apply, val_main_v286_apply, val_main_v287_apply, val_main_v288_apply, val_main_v289_apply, val_main_c_73_apply,
    val_main_v290_apply, val_main_v291_apply, val_main_c_74_apply, val_main_v292_apply, val_main_v293_apply, val_main_v294_apply,
    val_main_v295_apply, val_main_v296_apply, val_main_c_75_apply, val_main_v297_apply, val_main_v298_apply, val_main_c_76_apply,
    val_main_v299_apply, val_main_v300_apply, val_main_v301_apply, val_main_v302_apply, val_main_v303_apply, val_main_c_77_apply,
    val_main_v304_apply, val_main_v305_apply, val_main_c_78_apply, val_main_v306_apply, val_main_v307_apply, val_main_v308_apply,
    val_main_v309_apply, val_main_v310_apply, val_main_v311_apply, val_main_v312_apply, val_main_v313_apply, val_main_v314_apply,
    val_main_v315_apply, val_main_c_79_apply, val_main_v316_apply, val_main_v317_apply, val_main_v318_apply, val_main_c_80_apply,
    val_main_v319_apply, val_main_v320_apply, val_main_c_81_apply, val_main_v321_apply, val_main_v322_apply, val_main_v323_apply,
    val_main_v324_apply, val_main_v325_apply, val_main_c_82_apply, val_main_v326_apply, val_main_v327_apply, val_main_c_83_apply,
    val_main_v328_apply, val_main_v329_apply, val_main_v330_apply, val_main_v331_apply, val_main_v332_apply, val_main_c_84_apply,
    val_main_v333_apply, val_main_v334_apply, val_main_c_85_apply, val_main_v335_apply, val_main_v336_apply, val_main_v337_apply,
    val_main_v338_apply, val_main_v339_apply, val_main_c_86_apply, val_main_v340_apply, val_main_v341_apply, val_main_c_87_apply,
    val_main_v342_apply, val_main_v343_apply, val_main_v344_apply, val_main_v345_apply, val_main_v346_apply, val_main_v347_apply,
    val_main_v348_apply, val_main_v349_apply, val_main_v350_apply, val_main_v351_apply, val_main_c_88_apply, val_main_v352_apply,
    val_main_v353_apply, val_main_v354_apply, val_main_c_89_apply, val_main_v355_apply, val_main_v356_apply, val_main_c_90_apply,
    val_main_v357_apply, val_main_v358_apply, val_main_v359_apply, val_main_v360_apply, val_main_v361_apply, val_main_c_91_apply,
    val_main_v362_apply, val_main_v363_apply, val_main_c_92_apply, val_main_v364_apply, val_main_v365_apply, val_main_v366_apply,
    val_main_v367_apply, val_main_v368_apply, val_main_c_93_apply, val_main_v369_apply, val_main_v370_apply, val_main_c_94_apply,
    val_main_v371_apply, val_main_v372_apply, val_main_v373_apply, val_main_v374_apply, val_main_v375_apply, val_main_c_95_apply,
    val_main_v376_apply, val_main_v377_apply, val_main_c_96_apply, val_main_v378_apply, val_main_v379_apply, val_main_v380_apply,
    val_main_v381_apply, val_main_v382_apply, val_main_v383_apply, val_main_v384_apply, val_main_v385_apply, val_main_v386_apply,
    val_main_v387_apply, val_main_c_97_apply, val_main_v388_apply, val_main_v389_apply, val_main_v390_apply, val_main_c_98_apply,
    val_main_v391_apply, val_main_v392_apply, val_main_c_99_apply, val_main_v393_apply, val_main_v394_apply, val_main_v395_apply,
    val_main_v396_apply, val_main_v397_apply, val_main_c_100_apply, val_main_v398_apply, val_main_v399_apply,
    val_main_c_101_apply, val_main_v400_apply, val_main_v401_apply, val_main_v402_apply, val_main_v403_apply,
    val_main_v404_apply, val_main_c_102_apply, val_main_v405_apply, val_main_v406_apply, val_main_c_103_apply,
    val_main_v407_apply, val_main_v408_apply, val_main_v409_apply, val_main_v410_apply, val_main_v411_apply,
    val_main_c_104_apply, val_main_v412_apply, val_main_v413_apply, val_main_c_105_apply, val_main_v414_apply,
    val_main_v415_apply, val_main_v416_apply, val_main_v417_apply, val_main_v418_apply, val_main_v419_apply, val_main_v420_apply,
    val_main_v421_apply, val_main_v422_apply, val_main_v423_apply, val_main_c_106_apply, val_main_v424_apply,
    val_main_v425_apply, val_main_v426_apply, val_main_c_107_apply, val_main_v427_apply, val_main_v428_apply,
    val_main_c_108_apply, val_main_v429_apply, val_main_v430_apply, val_main_v431_apply, val_main_v432_apply,
    val_main_v433_apply, val_main_c_109_apply, val_main_v434_apply, val_main_v435_apply, val_main_c_110_apply,
    val_main_v436_apply, val_main_v437_apply, val_main_v438_apply, val_main_v439_apply, val_main_v440_apply,
    val_main_c_111_apply, val_main_v441_apply, val_main_v442_apply, val_main_c_112_apply, val_main_v443_apply,
    val_main_v444_apply, val_main_v445_apply, val_main_v446_apply, val_main_v447_apply, val_main_c_113_apply,
    val_main_v448_apply, val_main_v449_apply, val_main_c_114_apply, val_main_v450_apply, val_main_v451_apply,
    val_main_v452_apply, val_main_v453_apply, val_main_v454_apply, val_main_v455_apply, val_main_v456_apply, val_main_v457_apply,
    val_main_v458_apply, val_main_v459_apply, val_main_c_115_apply, val_main_v460_apply, val_main_v461_apply,
    val_main_v462_apply, rot_fold, start_mix, start_rnd, rnd_mix, rnd_rnd, inj_mix, inj_rnd, xori_fold, key0_eq, key1_eq, counter_fold, bits,
    Target.hash, four, four']
  rfl

end Cert.ReferenceIdeal.Read

end
-- ==== Proof.Noise.lean ====
module

public import proofs.«01_k».proof.Proof.Keys

@[expose] public section

noncomputable section

/-! The reference's noise, as a real number. -/

namespace Cert.Target

open Idealize.ShloMosaic

/-- The word shifted by nine and filled up with the exponent of one. -/
theorem word_fold (u : ArithUnit) (w c : BitVec 32) : IntOp.ori (IntOp.shrui u w 9#32) c = (w >>> 9#32) ||| c := by
  unfold IntOp.shrui
  rw [if_pos (by decide)]; rfl

/-- The maximum with the lower bound leaves the uniform number as it is; its factor and its addend are the named constants. -/
theorem unif_max (w : BitVec 32) :
    max (-16777215 / 16777216) ((frac w - 1) * (1 - -16777215 / 16777216) + -16777215 / 16777216) = unif w := by
  have h := frac_ge w
  unfold unif
  rw [max_eq_right] <;> linarith

/-- Minus the logarithm of one plus the negative square is `tail`. -/
theorem tail_log1p (w : BitVec 32) : -Ideal.log (1 + ((-unif w * unif w : ℝ) : EReal)) = ((tail w : ℝ) : EReal) := by
  have h := unif_sq w
  rw [← EReal.coe_one, ← EReal.coe_add, log_real _ (by linarith), ← EReal.coe_neg]
  unfold tail
  congr 3
  ring

/-- A choice by a comparison of real numbers. -/
theorem gauss_select (x : ℝ) (p q : EReal) (t : ℝ) :
    Scalar.select (FloatOps.cmpf (F := Ideal) (φ := .f32) .olt (x : EReal) (t : EReal)) p q = if x < t then p else q := by
  have e : FloatOps.cmpf (F := Ideal) (φ := .f32) .olt (x : EReal) (t : EReal) = BitVec.ofBool (decide ((x : EReal) < t)) := rfl
  rw [e]
  by_cases h : x < t
  · rw [if_pos h, decide_eq_true (EReal.coe_lt_coe_iff.mpr h)]; rfl
  · rw [if_neg h, decide_eq_false (fun h' => h (EReal.coe_lt_coe_iff.mp h'))]; rfl

/-- The polynomial chosen, times the uniform number, is `gauss`. -/
theorem gauss_fold (w : BitVec 32) :
    (if tail w < num 0x40A00000#32 then ((centre (tail w - num 0x40200000#32) : ℝ) : EReal)
      else ((outer (Real.sqrt (tail w) - num 0x40400000#32) : ℝ) : EReal)) * ((unif w : ℝ) : EReal) = ((gauss w : ℝ) : EReal) := by
  unfold gauss
  split_ifs <;> rw [EReal.coe_mul]

end Cert.Target

namespace Cert.ReferenceIdeal.Read

open Cert.ReferenceIdeal Cert.ReferenceIdeal.Gen Idealize.ShloMosaic Cert.Target

variable (i : S2x8x128x8x128x32.Idx)

/-- The uniform number. -/
theorem unif_eq : val_main_v476 (F := Ideal) i = ((unif (val_main_v462 (F := Ideal) i) : ℝ) : EReal) := by
  simp -implicitDefEqProofs only [
    val_main_c_116_apply, val_main_v463_apply, val_main_v464_apply, val_main_c_117_apply, val_main_v465_apply,
    val_main_v466_apply, val_main_v467_apply, val_main_cst_118_apply, val_main_v468_apply, val_main_v469_apply,
    val_main_cst_119_apply, val_main_cst_120_apply, val_main_v470_apply, val_main_v471_apply, val_main_v472_apply,
    val_main_cst_121_apply, val_main_v473_apply, val_main_v474_apply, val_main_cst_122_apply, val_main_v475_apply,
    val_main_v476_apply, word_fold, Ideal.ofBits_def, frac_coe]
  simp -implicitDefEqProofs (disch := decide) only [num_coe, Ideal.addf_def, Ideal.subf_def, Ideal.mulf_def,
    Ideal.maximumf_def, num_one, num_low, ← EReal.coe_add, ← EReal.coe_sub, ← EReal.coe_mul, max_real, unif_max]

/-- Minus the logarithm of one less its square. -/
theorem tail_eq : val_main_v480 (F := Ideal) i = ((tail (val_main_v462 (F := Ideal) i) : ℝ) : EReal) := by
  simp -implicitDefEqProofs only [
    val_main_v477_apply, val_main_v478_apply, val_main_v479_apply, val_main_v480_apply, unif_eq, Ideal.mulf_def, Ideal.hostNegf_def, Ideal.negf_def, Ideal.hostUnary_log1p_def, Ideal.log1p,
    ← EReal.coe_neg, ← EReal.coe_mul, tail_log1p]

/-- The inverse error function of the uniform number. -/
theorem gauss_eq : val_main_v521 (F := Ideal) i = ((gauss (val_main_v462 (F := Ideal) i) : ℝ) : EReal) := by
  simp -implicitDefEqProofs (disch := decide) only [
    val_main_cst_123_apply, val_main_v481_apply, val_main_v482_apply, val_main_v483_apply, val_main_cst_124_apply,
    val_main_v484_apply, val_main_v485_apply, val_main_cst_125_apply, val_main_v486_apply, val_main_v487_apply,
    val_main_cst_126_apply, val_main_v488_apply, val_main_v489_apply, val_main_cst_127_apply, val_main_v490_apply,
    val_main_v491_apply, val_main_cst_128_apply, val_main_v492_apply, val_main_v493_apply, val_main_v494_apply,
    val_main_cst_129_apply, val_main_v495_apply, val_main_v496_apply, val_main_v497_apply, val_main_cst_130_apply,
    val_main_v498_apply, val_main_v499_apply, val_main_v500_apply, val_main_cst_131_apply, val_main_v501_apply,
    val_main_v502_apply, val_main_v503_apply, val_main_cst_132_apply, val_main_v504_apply, val_main_v505_apply,
    val_main_v506_apply, val_main_cst_133_apply, val_main_v507_apply, val_main_v508_apply, val_main_v509_apply,
    val_main_cst_134_apply, val_main_v510_apply, val_main_v511_apply, val_main_v512_apply, val_main_cst_135_apply,
    val_main_v513_apply, val_main_v514_apply, val_main_v515_apply, val_main_cst_136_apply, val_main_v516_apply,
    val_main_v517_apply, val_main_cst_137_apply, val_main_v518_apply, val_main_v519_apply, val_main_v520_apply,
    val_main_v521_apply, tail_eq, unif_eq, Ideal.ofBits_def, num_coe, Ideal.addf_def, Ideal.subf_def, Ideal.mulf_def,
    Ideal.hostUnary_sqrt_def, sqrt_real _ (tail_nonneg _), ← EReal.coe_add, ← EReal.coe_sub, ← EReal.coe_mul, gauss_select]
  exact gauss_fold _

end Cert.ReferenceIdeal.Read

end
-- ==== Proof.RefValue.lean ====
module

public import proofs.«01_k».proof.Proof.Noise
public import Idealize.ShloMosaic.Lib.ValueIdxRank6

@[expose] public section

noncomputable section

/-! The reference's logits, as the target's, from the parameters by half, sample, class and feature. -/

namespace Cert.ReferenceIdeal.Read

open Cert.ReferenceIdeal Cert.ReferenceIdeal.Gen Idealize.ShloMosaic Cert.Target

variable {x0 : (⟨S2048x34, .f32⟩ : BufTy).Contents (Elt Ideal)} {x1 : (⟨S2048, .i32⟩ : BufTy).Contents (Elt Ideal)}
  {x2 : (⟨S_, .f32⟩ : BufTy).Contents (Elt Ideal)} {P : Fin 2 → Fin 8 → Fin 128 → Fin 34 → EReal} {e : EReal}

/-- The parameters by half, sample, class and feature are `P`. -/
def Parts (x0 : (⟨S2048x34, .f32⟩ : BufTy).Contents (Elt Ideal)) (x1 : (⟨S2048, .i32⟩ : BufTy).Contents (Elt Ideal))
    (P : Fin 2 → Fin 8 → Fin 128 → Fin 34 → EReal) : Prop :=
  ∀ i, val_main_v23 (F := Ideal) x0 x1 i = P (i 0) (i 1) (i 2) (i 3)

/-- The one feature from 33 on is feature 33. -/
theorem last_feature (a : Fin 1) (h : 33 + a.val < 34) : (⟨33 + a.val, h⟩ : Fin 34) = 33 := by
  ext; show 33 + a.val = 33; omega

/-- The halves exchanged. -/
theorem rev_eq (hP : Parts x0 x1 P) (i : S2x8x128x34.Idx) :
    val_main_v201 (F := Ideal) x0 x1 i = P (Fin.rev (n := 2) (i 0)) (i 1) (i 2) (i 3) := by
  unfold val_main_v201
  refine (hP _).trans ?_
  congr 1

/-- The supports' means: features 1 to 32 of the other half. -/
theorem revMean_eq (hP : Parts x0 x1 P) (i : S2x8x128x32.Idx) :
    val_main_v202 (F := Ideal) x0 x1 i = P (Fin.rev (n := 2) (i 0)) (i 1) (i 2) ⟨1 + (i 3).val, Nat.add_lt_add_left (i 3).isLt 1 |>.trans_le (by decide)⟩ := by
  rw [val_main_v202_apply, rev_eq hP]
  rfl

/-- The supports' logarithmic variances: feature 33 of the other half. -/
theorem revHidden_eq (hP : Parts x0 x1 P) (i : S2x8x128x1.Idx) :
    val_main_v203 (F := Ideal) x0 x1 i = P (Fin.rev (n := 2) (i 0)) (i 1) (i 2) 33 := by
  rw [val_main_v203_apply, rev_eq hP, ← last_feature (i 3) (by have := (i 3).isLt; change (i 3).val < 1 at this; omega)]
  rfl

/-- The queries' means: features 1 to 32. -/
theorem queryMean_eq (hP : Parts x0 x1 P) (i : S2x8x128x32.Idx) :
    val_main_v220 (F := Ideal) x0 x1 i = P (i 0) (i 1) (i 2) ⟨1 + (i 3).val, Nat.add_lt_add_left (i 3).isLt 1 |>.trans_le (by decide)⟩ := by
  rw [val_main_v220_apply, hP]
  rfl

/-- The queries' logarithmic variances: feature 33. -/
theorem queryHidden_eq (hP : Parts x0 x1 P) (i : S2x8x128x1.Idx) :
    val_main_v222 (F := Ideal) x0 x1 i = P (i 0) (i 1) (i 2) 33 := by
  rw [val_main_v222_apply, hP, ← last_feature (i 3) (by have := (i 3).isLt; change (i 3).val < 1 at this; omega)]
  rfl

/-! The stages' values at an index. -/

/-- A support's variance at an index. -/
def varSAt (e : EReal) (P : Fin 2 → Fin 8 → Fin 128 → Fin 34 → EReal) (i : S2x8x128x1.Idx) : EReal := varS e (P (Fin.rev (n := 2) (i 0))) (i 1) (i 2)

/-- The supports' variances. -/
theorem varS_eq (he : ∀ i, x2 i = e) (hP : Parts x0 x1 P) (i : S2x8x128x1.Idx) :
    val_main_v206 (F := Ideal) x0 x1 x2 i = varSAt e P i := by
  simp -implicitDefEqProofs only [
    val_main_v204_apply, val_main_v205_apply, val_main_v206_apply, val_main_v0_apply, revHidden_eq hP, he, Ideal.addf_def, Ideal.hostUnary_exp_def]
  rfl

/-- One over the supports' precisions at an index. -/
def newVarAt (e : EReal) (P : Fin 2 → Fin 8 → Fin 128 → Fin 34 → EReal) (i : S2x128x1.Idx) : EReal := newVar e (P (Fin.rev (n := 2) (i 0))) (i 1)

/-- One over the supports' precisions. -/
theorem newVar_eq (he : ∀ i, x2 i = e) (hP : Parts x0 x1 P) (i : S2x128x1.Idx) :
    val_main_v211 (F := Ideal) x0 x1 x2 i = newVarAt e P i := by
  simp -implicitDefEqProofs only [
    val_main_cst_apply, val_main_v207_apply, val_main_v208_apply, val_main_cst_60_apply, val_main_v209_apply, val_main_cst_61_apply,
    val_main_v210_apply, val_main_v211_apply, varS_eq he hP, Ideal.ofBits_def, zero_bits, one_bits,
    Ideal.hostDivf_def, zero_add]
  rfl

/-- The prototypes' means at an index. -/
def pmeanAt (e : EReal) (P : Fin 2 → Fin 8 → Fin 128 → Fin 34 → EReal) (i : S2x128x32.Idx) : EReal := pmean e (P (Fin.rev (n := 2) (i 0))) (i 1) (i 2)

/-- The prototypes' means. -/
theorem pmean_eq (he : ∀ i, x2 i = e) (hP : Parts x0 x1 P) (i : S2x128x32.Idx) :
    val_main_v216 (F := Ideal) x0 x1 x2 i = pmeanAt e P i := by
  simp -implicitDefEqProofs only [
    val_main_v212_apply, val_main_v213_apply, val_main_cst_62_apply, val_main_v214_apply, val_main_v215_apply,
    val_main_v216_apply, varS_eq he hP, newVar_eq he hP, revMean_eq hP, Ideal.ofBits_def, zero_bits, one_bits,
    Ideal.hostDivf_def, zero_add, Ideal.mulf_def]
  rfl

/-- The prototypes' variances at an index. -/
def pvarAt (e : EReal) (P : Fin 2 → Fin 8 → Fin 128 → Fin 34 → EReal) (i : S2x1x1x128x1.Idx) : EReal := pvar e (P (Fin.rev (n := 2) (i 0))) (i 3)

/-- The prototypes' variances, out of their logarithms. -/
theorem pvar_eq (he : ∀ i, x2 i = e) (hP : Parts x0 x1 P) (i : S2x1x1x128x1.Idx) :
    val_main_v227 (F := Ideal) x0 x1 x2 i = pvarAt e P i := by
  simp -implicitDefEqProofs only [
    val_main_v217_apply, val_main_v218_apply, val_main_v219_apply, val_main_v225_apply, val_main_v227_apply, val_main_v0_apply, he, newVar_eq he hP, Ideal.addf_def, Ideal.hostUnary_exp_def,
    Ideal.hostUnary_log_def]
  rfl

/-- The queries' variances at an index. -/
def qvarAt (P : Fin 2 → Fin 8 → Fin 128 → Fin 34 → EReal) (i : S2x8x128x1x1.Idx) : EReal := Ideal.exp (P (i 0) (i 1) (i 2) 33)

/-- The queries' variances. -/
theorem qvar_eq (hP : Parts x0 x1 P) (i : S2x8x128x1x1.Idx) : val_main_v226 (F := Ideal) x0 x1 i = qvarAt P i := by
  simp -implicitDefEqProofs only [
    val_main_v223_apply, val_main_v226_apply, queryHidden_eq hP, Ideal.hostUnary_exp_def]
  rfl

/-- The variance of a query and a prototype together, at an index. -/
def bothAt (e : EReal) (P : Fin 2 → Fin 8 → Fin 128 → Fin 34 → EReal) (i : S2x8x128x128x1.Idx) : EReal :=
  vsum (P (i 0) (i 1) (i 2) 33) (pvar e (P (Fin.rev (n := 2) (i 0)))) (i 3)

/-- The variance of a query and a prototype together, as the product's variance is divided by it. -/
theorem both_eq (he : ∀ i, x2 i = e) (hP : Parts x0 x1 P) (i : S2x8x128x128x1.Idx) :
    val_main_v233 (F := Ideal) x0 x1 x2 i = bothAt e P i := by
  simp -implicitDefEqProofs only [
    val_main_v231_apply, val_main_v232_apply, val_main_v233_apply, qvar_eq hP, pvar_eq he hP, Ideal.addf_def]
  rfl

/-- The variance of a query and a prototype together, as the product's mean is divided by it. -/
theorem both_again (he : ∀ i, x2 i = e) (hP : Parts x0 x1 P) (i : S2x8x128x128x1.Idx) :
    val_main_v244 (F := Ideal) x0 x1 x2 i = bothAt e P i := by
  simp -implicitDefEqProofs only [
    val_main_v242_apply, val_main_v243_apply, val_main_v244_apply, qvar_eq hP, pvar_eq he hP, Ideal.addf_def]
  rfl

/-- The variance of a query and a prototype together, as the mass has it. -/
theorem both_last (he : ∀ i, x2 i = e) (hP : Parts x0 x1 P) (i : S2x8x128x128x1.Idx) :
    val_main_v554 (F := Ideal) x0 x1 x2 i = bothAt e P i := by
  simp -implicitDefEqProofs only [
    val_main_v552_apply, val_main_v553_apply, val_main_v554_apply, qvar_eq hP, pvar_eq he hP, Ideal.addf_def]
  rfl

/-- The spread of the product of a query and a prototype, at an index. -/
def spreadAt (e : EReal) (P : Fin 2 → Fin 8 → Fin 128 → Fin 34 → EReal) (i : S2x8x128x1x128x1.Idx) : EReal :=
  Ideal.div (Ideal.exp (P (i 0) (i 1) (i 2) 33) * pvar e (P (Fin.rev (n := 2) (i 0))) (i 4))
    (vsum (P (i 0) (i 1) (i 2) 33) (pvar e (P (Fin.rev (n := 2) (i 0)))) (i 4))

/-- The product's variance. -/
theorem spread_eq (he : ∀ i, x2 i = e) (hP : Parts x0 x1 P) (i : S2x8x128x1x128x1.Idx) :
    val_main_v525 (F := Ideal) x0 x1 x2 i = spreadAt e P i := by
  simp -implicitDefEqProofs only [
    val_main_v228_apply, val_main_v229_apply, val_main_v230_apply, val_main_v234_apply, val_main_v525_apply, qvar_eq hP, pvar_eq he hP, both_eq he hP, Ideal.mulf_def, Ideal.hostDivf_def]
  rfl

/-- The mean of the product of a query and a prototype, at an index. -/
def middleAt (e : EReal) (P : Fin 2 → Fin 8 → Fin 128 → Fin 34 → EReal) (i : S2x8x128x128x32.Idx) : EReal :=
  Ideal.div (P (i 0) (i 1) (i 2) ⟨1 + (i 4).val, Nat.add_lt_add_left (i 4).isLt 1 |>.trans_le (by decide)⟩ * pvar e (P (Fin.rev (n := 2) (i 0))) (i 3) +
    pmean e (P (Fin.rev (n := 2) (i 0))) (i 3) (i 4) * Ideal.exp (P (i 0) (i 1) (i 2) 33))
    (vsum (P (i 0) (i 1) (i 2) 33) (pvar e (P (Fin.rev (n := 2) (i 0)))) (i 3))

/-- The product's mean. -/
theorem middle_eq (he : ∀ i, x2 i = e) (hP : Parts x0 x1 P) (i : S2x8x128x128x32.Idx) :
    val_main_v246 (F := Ideal) x0 x1 x2 i = middleAt e P i := by
  simp -implicitDefEqProofs only [
    val_main_v221_apply, val_main_v224_apply, val_main_v235_apply, val_main_v236_apply, val_main_v237_apply, val_main_v238_apply, val_main_v239_apply, val_main_v240_apply,
    val_main_v241_apply, val_main_v245_apply, val_main_v246_apply, qvar_eq hP, pvar_eq he hP, both_again he hP, queryMean_eq hP, pmean_eq he hP, Ideal.mulf_def,
    Ideal.addf_def, Ideal.hostDivf_def]
  rfl

/-- The prototypes' variances with the last axis dropped, at an index. -/
def pvarFlatAt (e : EReal) (P : Fin 2 → Fin 8 → Fin 128 → Fin 34 → EReal) (i : S2x1x1x1x128.Idx) : EReal := pvar e (P (Fin.rev (n := 2) (i 0))) (i 4)

/-- An index with a last coordinate more, which is zero. -/
def withLast (i : S2x1x1x1x128.Idx) : S2x1x1x1x128x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨0, Nat.one_pos⟩

/-- The prototypes' variances with the last axis dropped. -/
theorem pvarFlat_eq (he : ∀ i, x2 i = e) (hP : Parts x0 x1 P) (i : S2x1x1x1x128.Idx) :
    val_main_v533 (F := Ideal) x0 x1 x2 i = pvarFlatAt e P i := by
  have h : val_main_v533 (F := Ideal) x0 x1 x2 i = val_main_v532 (F := Ideal) x0 x1 x2 (withLast i) := by
    unfold val_main_v533
    generalize val_main_v532 (F := Ideal) x0 x1 x2 = y
    exact shapeCast_apply y _ i (withLast i) (by
      rw [Shape.rowMajor_val_six, Shape.rowMajor_val_five]
      show (((((i 0).val * 1 + (i 1).val) * 1 + (i 2).val) * 1 + (i 3).val) * 128 + (i 4).val) * 1 + 0 =
        ((((i 0).val * 1 + (i 1).val) * 1 + (i 2).val) * 1 + (i 3).val) * 128 + (i 4).val
      omega)
  rw [h, val_main_v532_apply, pvar_eq he hP]
  rfl

/-- The variance of a query and a prototype together with the last axis dropped, at an index. -/
def bothFlatAt (e : EReal) (P : Fin 2 → Fin 8 → Fin 128 → Fin 34 → EReal) (i : S2x8x128x128.Idx) : EReal :=
  vsum (P (i 0) (i 1) (i 2) 33) (pvar e (P (Fin.rev (n := 2) (i 0)))) (i 3)

/-- An index with a last coordinate more, which is zero. -/
def withLast' (i : S2x8x128x128.Idx) : S2x8x128x128x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩

/-- The variance of a query and a prototype together with the last axis dropped. -/
theorem bothFlat_eq (he : ∀ i, x2 i = e) (hP : Parts x0 x1 P) (i : S2x8x128x128.Idx) :
    val_main_v555 (F := Ideal) x0 x1 x2 i = bothFlatAt e P i := by
  have h : val_main_v555 (F := Ideal) x0 x1 x2 i = val_main_v554 (F := Ideal) x0 x1 x2 (withLast' i) := by
    unfold val_main_v555
    generalize val_main_v554 (F := Ideal) x0 x1 x2 = y
    exact shapeCast_apply y _ i (withLast' i) (by
      rw [Shape.rowMajor_val_five, Shape.rowMajor_val_four]
      show ((((i 0).val * 8 + (i 1).val) * 128 + (i 2).val) * 128 + (i 3).val) * 1 + 0 =
        (((i 0).val * 8 + (i 1).val) * 128 + (i 2).val) * 128 + (i 3).val
      omega)
  rw [h, both_last he hP]
  rfl

/-- The random word of a sample, at an index. -/
def wordAt (i : S2x8x128x8x128x32.Idx) : BitVec 32 :=
  bits (key0 (i 0)) (key1 (i 0)) (key0 (i 0) ^^^ key1 (i 0) ^^^ 466688986#32) (counter (i 1) (i 2) (i 3) (i 4) (i 5))

/-- The standard normal variate of a sample. -/
theorem variate_eq (i : S2x8x128x8x128x32.Idx) : val_main_v521 (F := Ideal) i = ((gauss (wordAt i) : ℝ) : EReal) := by
  rw [gauss_eq, bits_eq]
  rfl

/-- A sample less its prototype, at an index. -/
def distAt (e : EReal) (P : Fin 2 → Fin 8 → Fin 128 → Fin 34 → EReal) (i : S2x8x128x8x128x32.Idx) : EReal :=
  dist (fun d => P (i 0) (i 1) (i 2) ⟨1 + d.val, by omega⟩) (P (i 0) (i 1) (i 2) 33) (pmean e (P (Fin.rev (n := 2) (i 0))))
    (pvar e (P (Fin.rev (n := 2) (i 0))))
    (fun s c d => gauss (bits (key0 (i 0)) (key1 (i 0)) (key0 (i 0) ^^^ key1 (i 0) ^^^ 466688986#32) (counter (i 1) (i 2) s c d))) (i 3) (i 4) (i 5)

/-- A sample less its prototype. -/
theorem dist_eq (he : ∀ i, x2 i = e) (hP : Parts x0 x1 P) (i : S2x8x128x8x128x32.Idx) :
    val_main_v535 (F := Ideal) x0 x1 x2 i = distAt e P i := by
  simp -implicitDefEqProofs only [
    val_main_cst_138_apply, val_main_v522_apply, val_main_v523_apply, val_main_v524_apply, val_main_v526_apply, val_main_v527_apply, val_main_v528_apply, val_main_v529_apply, val_main_v530_apply, val_main_v531_apply, val_main_v534_apply, val_main_v535_apply, val_main_v224_apply, Ideal.ofBits_def, zero_bits, one_bits, variate_eq, spread_eq he hP, middle_eq he hP, pmean_eq he hP,
    Ideal.hostUnary_sqrt_def, Ideal.mulf_def, Ideal.addf_def, Ideal.subf_def]
  rfl

/-- A sample's logarithmic density under its prototype, at an index. -/
def densAt (e : EReal) (P : Fin 2 → Fin 8 → Fin 128 → Fin 34 → EReal) (i : S2x8x128x8x128.Idx) : EReal :=
  dens (fun d => P (i 0) (i 1) (i 2) ⟨1 + d.val, by omega⟩) (P (i 0) (i 1) (i 2) 33) (pmean e (P (Fin.rev (n := 2) (i 0))))
    (pvar e (P (Fin.rev (n := 2) (i 0))))
    (fun s c d => gauss (bits (key0 (i 0)) (key1 (i 0)) (key0 (i 0) ^^^ key1 (i 0) ^^^ 466688986#32) (counter (i 1) (i 2) s c d))) (i 3) (i 4)

/-- A sample's logarithmic density under its prototype. -/
theorem dens_eq (he : ∀ i, x2 i = e) (hP : Parts x0 x1 P) (i : S2x8x128x8x128.Idx) :
    val_main_v548 (F := Ideal) x0 x1 x2 i = densAt e P i := by
  simp -implicitDefEqProofs only [
    val_main_v536_apply, val_main_cst_139_apply, val_main_v537_apply, val_main_v538_apply, val_main_cst_140_apply, val_main_v539_apply, val_main_v540_apply, val_main_cst_141_apply,
    val_main_v541_apply, val_main_v542_apply, val_main_cst_142_apply, val_main_v543_apply, val_main_v544_apply,
    val_main_v545_apply, val_main_v546_apply, val_main_v547_apply, val_main_v548_apply, Ideal.ofBits_def, zero_bits, one_bits, dist_eq he hP, pvarFlat_eq he hP,
    Ideal.hostUnary_log_def, Ideal.mulf_def, Ideal.subf_def, zero_add, Ideal.hostDivf_def]
  rfl

/-- The logarithm of a sample's density under all prototypes, at an index. -/
def denomAt (e : EReal) (P : Fin 2 → Fin 8 → Fin 128 → Fin 34 → EReal) (i : S2x8x128x8.Idx) : EReal :=
  denom (fun d => P (i 0) (i 1) (i 2) ⟨1 + d.val, by omega⟩) (P (i 0) (i 1) (i 2) 33) (pmean e (P (Fin.rev (n := 2) (i 0))))
    (pvar e (P (Fin.rev (n := 2) (i 0))))
    (fun s c d => gauss (bits (key0 (i 0)) (key1 (i 0)) (key0 (i 0) ^^^ key1 (i 0) ^^^ 466688986#32) (counter (i 1) (i 2) s c d))) (i 3)

/-- The logarithm of a sample's density under all prototypes together. -/
theorem denom_eq (he : ∀ i, x2 i = e) (hP : Parts x0 x1 P) (i : S2x8x128x8.Idx) :
    val_main_v551 (F := Ideal) x0 x1 x2 i = denomAt e P i := by
  simp -implicitDefEqProofs only [
    val_main_v549_apply, val_main_cst_143_apply, val_main_v550_apply, val_main_v551_apply, val_main_cst_143_apply, Ideal.ofBits_def, zero_bits, one_bits, dens_eq he hP, Ideal.hostUnary_exp_def,
    Ideal.hostUnary_log_def, zero_add]
  rfl

/-- The logarithm of the mass of the product of a query and a prototype, at an index. -/
def massAt (e : EReal) (P : Fin 2 → Fin 8 → Fin 128 → Fin 34 → EReal) (i : S2x8x128x128.Idx) : EReal :=
  mass (fun d => P (i 0) (i 1) (i 2) ⟨1 + d.val, by omega⟩) (P (i 0) (i 1) (i 2) 33) (pmean e (P (Fin.rev (n := 2) (i 0))))
    (pvar e (P (Fin.rev (n := 2) (i 0)))) (i 3)

/-- The logarithm of the mass of the product of a query and a prototype. -/
theorem mass_eq (he : ∀ i, x2 i = e) (hP : Parts x0 x1 P) (i : S2x8x128x128.Idx) :
    val_main_v569 (F := Ideal) x0 x1 x2 i = massAt e P i := by
  simp -implicitDefEqProofs only [
    val_main_v556_apply, val_main_v557_apply, val_main_v558_apply, val_main_v559_apply, val_main_cst_144_apply,
    val_main_v560_apply, val_main_v561_apply, val_main_cst_145_apply, val_main_v562_apply, val_main_v563_apply,
    val_main_cst_146_apply, val_main_v564_apply, val_main_v565_apply, val_main_cst_147_apply, val_main_v566_apply,
    val_main_v567_apply, val_main_v568_apply, val_main_v569_apply, val_main_v221_apply, val_main_v224_apply, Ideal.ofBits_def, zero_bits, one_bits, bothFlat_eq he hP, queryMean_eq hP, pmean_eq he hP,
    Ideal.hostUnary_log_def, Ideal.mulf_def, Ideal.subf_def, zero_add, Ideal.hostDivf_def]
  rfl

/-- The reference's logit of a query for a class, before the padding and the reordering. -/
theorem logit_eq (he : ∀ i, x2 i = e) (hP : Parts x0 x1 P) (i : S2x8x128x128.Idx) :
    val_main_v578 (F := Ideal) x0 x1 x2 i = result e P (i 0) (i 1) (i 2) (i 3) := by
  simp -implicitDefEqProofs only [
    val_main_v570_apply, val_main_v571_apply, val_main_cst_148_apply, val_main_v572_apply, val_main_v573_apply,
    val_main_v574_apply, val_main_v575_apply, val_main_v576_apply, val_main_cst_149_apply, val_main_v577_apply,
    val_main_v578_apply, val_main_cst_148_apply, Ideal.ofBits_def, zero_bits, one_bits, denom_eq he hP, mass_eq he hP, Ideal.hostUnary_exp_def,
    Ideal.hostNegf_def, Ideal.negf_def, Ideal.hostUnary_log_def, zero_add, Ideal.addf_def,
    Ideal.subf_def]
  rfl

end Cert.ReferenceIdeal.Read

end
-- ==== Proof.Layout.lean ====
module

public import proofs.«01_k».proof.Proof.RefValue
public import Idealize.ShloMosaic.Lib.SortFacts
public import Idealize.ShloMosaic.Lib.Routing.OpsSet

@[expose] public section

set_option maxRecDepth 4096

noncomputable section

/-! Where the reference's sorts, gathers and scatter take the parameters and put the logits, when the labels count the classes
round and round. -/

namespace Cert.ReferenceIdeal.Read

open Cert.ReferenceIdeal Cert.ReferenceIdeal.Gen Idealize.ShloMosaic Cert.Target

/-! ## A stable sort whose order is known -/

/-- A stable sort of an increasing list may break its ties by any order that agrees with it on a later against an earlier element. -/
theorem stableSort_later {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

/-- … so the sort puts element `σ k` at place `k` where the permutation `σ` orders a later against an earlier element the same way. -/
theorem sortedFrom_eq {n : ℕ} (R : Fin n → Fin n → Bool) (σ : Equiv.Perm (Fin n))
    (h : ∀ a b, a < b → R b a = decide (σ.symm b < σ.symm a)) (k : Fin n) : sortedFrom R k = σ k := by
  have e : sortPositions n R = List.ofFn σ :=
    (stableSort_later R (fun k k' => decide (σ.symm k < σ.symm k')) h _ (List.pairwise_lt_finRange n)).trans (sortPositions_of_perm σ)
  unfold sortedFrom
  rw [List.get_of_eq e]
  simp

/-- The places of sorted 32-bit numbers: the argument of the `k`-th in order. -/
theorem argsort_eq (x : IVec S2048 32) (σ : Equiv.Perm (Fin 2048))
    (h : ∀ a b : Fin 2048, a < b → (x (Shape.Idx.ofFin b)).slt (x (Shape.Idx.ofFin a)) = decide (σ.symm b < σ.symm a)) (k : Fin 2048) :
    (Host.sort2 S2048 0 comparator_i32_i32_d0 x (iotaInDim S2048 32 0)).2 (Shape.Idx.ofFin k) = BitVec.ofNat 32 (σ k).val := by
  let j : S2048.Idx := Shape.Idx.ofFin k
  show BitVec.ofNat 32 ((j.along (0 : Fin 1) (sortedFrom (n := 2048) (fun a b =>
    BitVec.ofBool ((x (j.along (0 : Fin 1) a)).slt (x (j.along (0 : Fin 1) b))) == 1#1) k)) 0).val = _
  rw [sortedFrom_eq _ σ (fun a b hab => ?_), Shape.Idx.along_rank1]
  · rfl
  · rw [Shape.Idx.along_rank1, Shape.Idx.along_rank1, h a b hab]
    cases decide (σ.symm b < σ.symm a) <;> rfl

/-- Place `k` of the sorted labels holds sample `k % 16` of class `k / 16`. -/
def order : Equiv.Perm (Fin 2048) where
  toFun k := ⟨k.val % 16 * 128 + k.val / 16, by omega⟩
  invFun k := ⟨k.val % 128 * 16 + k.val / 128, by omega⟩
  left_inv k := Fin.ext (by show (k.val % 16 * 128 + k.val / 16) % 128 * 16 + (k.val % 16 * 128 + k.val / 16) / 128 = k.val; omega)
  right_inv k := Fin.ext (by show (k.val % 128 * 16 + k.val / 128) % 16 * 128 + (k.val % 128 * 16 + k.val / 128) / 16 = k.val; omega)

variable {x0 : (⟨S2048x34, .f32⟩ : BufTy).Contents (Elt Ideal)} {x1 : (⟨S2048, .i32⟩ : BufTy).Contents (Elt Ideal)}
  {x2 : (⟨S_, .f32⟩ : BufTy).Contents (Elt Ideal)} {e : EReal} {p : Fin 2048 → Fin 34 → EReal}

/-- The labels count the 128 classes round and round. -/
def Round (x1 : (⟨S2048, .i32⟩ : BufTy).Contents (Elt Ideal)) : Prop := ∀ k : Fin 2048, x1 (Shape.Idx.ofFin k) = BitVec.ofNat 32 (k.val % 128)

/-- Numbers below 2048 compare as words as they do as numbers. -/
theorem slt_small (a b : ℕ) (ha : a < 2048) (hb : b < 2048) : (BitVec.ofNat 32 a).slt (BitVec.ofNat 32 b) = decide (a < b) := by
  rw [BitVec.slt, StableHlo.Predicate.toInt_ofNat_small _ (by omega), StableHlo.Predicate.toInt_ofNat_small _ (by omega)]
  exact decide_eq_decide.mpr Nat.cast_lt

/-- An index below 2048 is not negative, so it is left as it is. -/
theorem wrap_small (a : ℕ) (ha : a < 2048) (y : BitVec 32) : Scalar.select (IntOp.cmpi .slt (BitVec.ofNat 32 a) 0#32) y (BitVec.ofNat 32 a) = BitVec.ofNat 32 a :=
  Routing.wrap_of_lt _ _ (by rw [BitVec.toNat_ofNat]; omega)

/-- The sort by label puts row `order k` in place `k`. -/
theorem v1_eq (hx : Round x1) (k : Fin 2048) : val_main_v1 (F := Ideal) x1 (Shape.Idx.ofFin k) = BitVec.ofNat 32 (order k).val :=
  argsort_eq x1 order (fun a b hab => by
    rw [hx, hx, slt_small _ _ (by omega) (by omega)]
    refine decide_eq_decide.mpr ?_
    show _ ↔ b.val % 128 * 16 + b.val / 128 < a.val % 128 * 16 + a.val / 128
    have : a.val < b.val := hab
    omega) k

/-- The index by which the rows are taken in order of labels. -/
theorem v7_eq (hx : Round x1) (k : Fin 2048) : val_main_v7 (F := Ideal) x1 (ix2 k 0) = BitVec.ofNat 32 (order k).val := by
  have h : idx_main_v7 (ix2 k 0) = Shape.Idx.ofFin k := by funext a; fin_cases a; rfl
  rw [val_main_v7_apply, h, val_main_v6_apply, val_main_v3_apply, v1_eq hx]
  exact wrap_small _ (order k).isLt _

/-- The index by which the labels are taken in order. -/
theorem v18_eq (hx : Round x1) (k : Fin 2048) : val_main_v18 (F := Ideal) x1 (ix2 k 0) = BitVec.ofNat 32 (order k).val := by
  have h : idx_main_v18 (ix2 k 0) = Shape.Idx.ofFin k := by funext a; fin_cases a; rfl
  rw [val_main_v18_apply, h, val_main_v17_apply, val_main_v14_apply, v1_eq hx]
  exact wrap_small _ (order k).isLt _

/-- Row `k` of the parameters in order of labels. -/
theorem v8_eq (hx : Round x1) (k : Fin 2048) (f : Fin 34) : val_main_v8 (F := Ideal) x0 x1 (ix2 k f) = x0 (ix2 (order k) f) :=
  Routing.gather_row gather_S2048x34_S2048x1_S2048x34_1_0_n_n_0_1_134 rfl rfl rfl rfl rfl x0 _ k f (order k) (v7_eq hx k) (by norm_num)

/-- Label `k` in order: every class sixteen times. -/
theorem v19_eq (hx : Round x1) (k : Fin 2048) : val_main_v19 (F := Ideal) x1 (ix1 k) = BitVec.ofNat 32 (k.val / 16) := by
  refine (Routing.gather_take1 gather_S2048_S2048x1_S2048_n_0_n_n_0_1_1 rfl rfl rfl rfl x1 _ k (order k) (v18_eq hx k) (by norm_num)).trans ?_
  rw [← Routing.ofFin_eq_ix1, hx]
  refine congrArg (BitVec.ofNat 32) ?_
  show (k.val % 16 * 128 + k.val / 16) % 128 = k.val / 16
  omega

/-- The sorted parameters by half, sample and class are the rows in their own order by half, sample and class. -/
theorem parts_eq (hx : Round x1) (hp : ∀ r f, x0 (ix2 r f) = p r f) : Parts x0 x1 (parts p) := by
  intro i
  have h0 : (i 0).val < 2 := (i 0).isLt
  have h1 : (i 1).val < 8 := (i 1).isLt
  have h2 : (i 2).val < 128 := (i 2).isLt
  have h3 : (i 3).val < 34 := (i 3).isLt
  have h : idx_main_v9 (idx_main_v10 (idx_main_v23 i)) = ix2 (⟨(i 2).val * 16 + ((i 0).val * 8 + (i 1).val), by omega⟩ : Fin 2048) (⟨(i 3).val, h3⟩ : Fin 34) := by
    funext a
    fin_cases a
    · refine Fin.ext ?_
      simp only [idx_main_v9, idx_main_v10, idx_main_v23]
      show _ = (i 2).val * 16 + ((i 0).val * 8 + (i 1).val)
      omega
    · refine Fin.ext ?_
      simp only [idx_main_v9, idx_main_v10, idx_main_v23]
      show _ = (i 3).val
      omega
  rw [val_main_v23_apply, val_main_v10_apply, val_main_v9_apply, h, v8_eq hx, hp]
  refine congrArg₂ (fun n f => p n f) (Fin.ext ?_) rfl
  show ((i 2).val * 16 + ((i 0).val * 8 + (i 1).val)) % 16 * 128 + ((i 2).val * 16 + ((i 0).val * 8 + (i 1).val)) / 16
    = ((i 0).val * 8 + (i 1).val) * 128 + (i 2).val
  omega

/-- The classes' labels, one of each, are 0, 1, ..., 127. -/
theorem v22_eq (hx : Round x1) (l : Fin 128) : val_main_v22 (F := Ideal) x1 (ix1 l) = BitVec.ofNat 32 l.val := by
  have h : idx_main_v20 (idx_main_v21 (idx_main_v22 (ix1 l))) = ix1 (⟨l.val * 16, by omega⟩ : Fin 2048) := by
    funext a
    fin_cases a
    refine Fin.ext ?_
    simp only [idx_main_v20, idx_main_v21, idx_main_v22]
    show l.val / 1 * 16 + 0 = l.val * 16
    omega
  rw [val_main_v22_apply, val_main_v21_apply, val_main_v20_apply, h, v19_eq hx]
  exact congrArg (BitVec.ofNat 32) (by show l.val * 16 / 16 = l.val; omega)

/-- The column that class `l` is put in is column `l`. -/
theorem v586_eq (hx : Round x1) (l : Fin 128) : val_main_v586 (F := Ideal) x1 (ix2 l 0) = BitVec.ofNat 32 l.val := by
  have h : idx_main_v586 (ix2 l 0) = ix1 l := by funext a; fin_cases a; rfl
  rw [val_main_v586_apply, h, val_main_v585_apply, val_main_v582_apply, v22_eq hx]
  exact wrap_small _ (by omega) _

/-- The rows' own numbers, after the results have been put in order of sample and class: row `k` is in place `k`. -/
theorem v589_eq (hx : Round x1) (k : Fin 2048) : val_main_v589 (F := Ideal) x1 (Shape.Idx.ofFin k) = BitVec.ofNat 32 k.val := by
  have h : idx_main_v11 (idx_main_v12 (idx_main_v589 (Shape.Idx.ofFin k))) = Shape.Idx.ofFin (⟨k.val % 128 * 16 + k.val / 128, by omega⟩ : Fin 2048) := by
    funext a
    fin_cases a
    rfl
  rw [val_main_v589_apply, val_main_v12_apply, val_main_v11_apply, h, v1_eq hx]
  refine congrArg (BitVec.ofNat 32) ?_
  show (k.val % 128 * 16 + k.val / 128) % 16 * 128 + (k.val % 128 * 16 + k.val / 128) / 16 = k.val
  omega

/-- The sort of the rows' own numbers moves none. -/
theorem v590_eq (hx : Round x1) (k : Fin 2048) : val_main_v590 (F := Ideal) x1 (Shape.Idx.ofFin k) = BitVec.ofNat 32 k.val :=
  argsort_eq (val_main_v589 (F := Ideal) x1) (Equiv.refl _) (fun a b _ => by
    rw [v589_eq hx, v589_eq hx, slt_small _ _ b.isLt a.isLt]
    rfl) k

/-- The index by which the rows are taken back to their own order. -/
theorem v596_eq (hx : Round x1) (k : Fin 2048) : val_main_v596 (F := Ideal) x1 (ix2 k 0) = BitVec.ofNat 32 k.val := by
  have h : idx_main_v596 (ix2 k 0) = Shape.Idx.ofFin k := by funext a; fin_cases a; rfl
  rw [val_main_v596_apply, h, val_main_v595_apply, val_main_v592_apply, v590_eq hx]
  exact wrap_small _ k.isLt _

/-- Taking the rows back to their own order moves none. -/
theorem v597_eq (hx : Round x1) (k : Fin 2048) (l : Fin 512) :
    val_main_v597 (F := Ideal) x0 x1 x2 (ix2 k l) = val_main_v588 (F := Ideal) x0 x1 x2 (ix2 k l) :=
  Routing.gather_row gather_S2048x512_S2048x1_S2048x512_1_0_n_n_0_1_1512 rfl rfl rfl rfl rfl _ _ k l k (v596_eq hx k) (by norm_num)

/-! ## The columns the logits are put in -/

/-- An update lands on the entry of the same query, row and column, and on no other. -/
theorem lands (hx : Round x1) (k : S16x128x128.Idx) (i : S16x128x512.Idx) :
    scatter_S16x128x512_S128x1_S16x128x128_01_2_2_1.resultIdx? k (val_main_v586 (F := Ideal) x1) = some i
      ↔ (k 0).val = (i 0).val ∧ (k 1).val = (i 1).val ∧ (k 2).val = (i 2).val := by
  rw [Routing.resultIdx?_eq_some]
  have s0 : scatter_S16x128x512_S128x1_S16x128x128_01_2_2_1.start k (val_main_v586 (F := Ideal) x1) 0 = 0 := rfl
  have s1 : scatter_S16x128x512_S128x1_S16x128x128_01_2_2_1.start k (val_main_v586 (F := Ideal) x1) 1 = 0 := rfl
  have s2 : scatter_S16x128x512_S128x1_S16x128x128_01_2_2_1.start k (val_main_v586 (F := Ideal) x1) 2 = ((k 2).val : ℤ) := by
    have hs : scatter_S16x128x512_S128x1_S16x128x128_01_2_2_1.start k (val_main_v586 (F := Ideal) x1) 2
        = (val_main_v586 (F := Ideal) x1 (ix2 (k 2) 0)).toInt := by
      refine congrArg (fun j => (val_main_v586 (F := Ideal) x1 j).toInt) (funext fun a => ?_)
      fin_cases a <;> rfl
    rw [hs, v586_eq hx (k 2), StableHlo.Predicate.toInt_ofNat_small _ (by have : (k 2).val < 128 := (k 2).isLt; omega)]
  have w0 : scatter_S16x128x512_S128x1_S16x128x128_01_2_2_1.window k 0 = (k 0).val := rfl
  have w1 : scatter_S16x128x512_S128x1_S16x128x128_01_2_2_1.window k 1 = (k 1).val := rfl
  have w2 : scatter_S16x128x512_S128x1_S16x128x128_01_2_2_1.window k 2 = 0 := rfl
  constructor
  · intro h
    have h0 := h 0
    have h1 := h 1
    have h2 := h 2
    rw [s0, w0] at h0
    rw [s1, w1] at h1
    rw [s2, w2] at h2
    omega
  · rintro ⟨h0, h1, h2⟩ a
    match a with
    | ⟨0, _⟩ => exact (congrArg₂ (fun (u : ℤ) (v : ℕ) => u + (v : ℤ)) s0 w0).trans (by rw [h0]; exact zero_add _)
    | ⟨1, _⟩ => exact (congrArg₂ (fun (u : ℤ) (v : ℕ) => u + (v : ℤ)) s1 w1).trans (by rw [h1]; exact zero_add _)
    | ⟨2, _⟩ => exact (congrArg₂ (fun (u : ℤ) (v : ℕ) => u + (v : ℤ)) s2 w2).trans (by rw [h2]; exact add_zero _)

/-- The reference's result, entry by entry. -/
theorem reference_table (hx : Round x1) (he : ∀ i, x2 i = e) (hp : ∀ r f, x0 (ix2 r f) = p r f) :
    val_main_v597 (F := Ideal) x0 x1 x2 = fun i => table e p (i 0) (i 1) := by
  funext i
  have hi : i = ix2 (i 0) (i 1) := eq_ix2 i
  have h0 : (i 0).val < 2048 := (i 0).isLt
  have h1 : (i 1).val < 512 := (i 1).isLt
  rw [hi]
  refine (v597_eq hx (i 0) (i 1)).trans ?_
  have hj : idx_main_v588 (ix2 (i 0) (i 1)) = ix3 (⟨(i 0).val / 128, by omega⟩ : Fin 16) (⟨(i 0).val % 128, by omega⟩ : Fin 128) (i 1) := by
    funext a
    fin_cases a
    · refine Fin.ext ?_
      show ((i 0).val * 512 + (i 1).val) / 65536 = (i 0).val / 128
      omega
    · refine Fin.ext ?_
      show ((i 0).val * 512 + (i 1).val) / 512 % 128 = (i 0).val % 128
      omega
    · refine Fin.ext ?_
      show ((i 0).val * 512 + (i 1).val) % 512 = (i 1).val
      omega
  rw [val_main_v588_apply, hj]
  show Host.scatter _ _ _ _ _ _ = table e p (i 0) (i 1)
  unfold table
  by_cases h : (i 1).val < 128
  · rw [dif_pos h]
    refine Routing.scatter_set_hit _ _ _ _ _ _ (fun k hk => ?_)
      (ix3 (⟨(i 0).val / 128, by omega⟩ : Fin 16) (⟨(i 0).val % 128, by omega⟩ : Fin 128) (⟨(i 1).val, h⟩ : Fin 128)) ((lands hx _ _).mpr ⟨rfl, rfl, rfl⟩)
    obtain ⟨k0, k1, k2⟩ := (lands hx _ _).mp hk
    change (k 0).val = (i 0).val / 128 at k0
    change (k 1).val = (i 0).val % 128 at k1
    change (k 2).val = (i 1).val at k2
    rw [val_main_v580_apply, logit_eq he (parts_eq hx hp)]
    have e0 : ((k 0).val * 128 + (k 1).val) * 128 + (k 2).val = (i 0).val * 128 + (i 1).val := by omega
    congr 2
    · refine Fin.ext ?_
      show (((k 0).val * 128 + (k 1).val) * 128 + (k 2).val) / 131072 = (i 0).val / 1024
      omega
    · refine Fin.ext ?_
      show (((k 0).val * 128 + (k 1).val) * 128 + (k 2).val) / 16384 % 8 = (i 0).val / 128 % 8
      omega
    · refine Fin.ext ?_
      show (((k 0).val * 128 + (k 1).val) * 128 + (k 2).val) / 128 % 128 = (i 0).val % 128
      omega
    · refine Fin.ext ?_
      show (((k 0).val * 128 + (k 1).val) * 128 + (k 2).val) % 128 = (i 1).val
      omega
  · rw [dif_neg h]
    refine (Routing.scatter_set_miss _ _ _ _ _ fun k hk => h ?_).trans ?_
    · have hk2 : (k 2).val = (i 1).val := ((lands hx _ _).mp hk).2.2
      have : (k 2).val < 128 := (k 2).isLt
      omega
    · exact (val_main_v579_apply _).trans rfl

end Cert.ReferenceIdeal.Read

end
-- ==== Proof.Drawn.lean ====
module

public import proofs.«01_k».proof.Proof.Layout
public import proofs.«01_k».proof.Pre_drawn
public import Idealize.ShloMosaic.Lib.ReduceAll

@[expose] public section

noncomputable section

/-! What the precondition says: the labels count the classes round and round, and the variance's logarithm is not minus
infinity. -/

namespace Cert.Pre_drawn

open Cert.Pre_drawn Idealize.ShloMosaic

/-- The shapes fit. -/
theorem facts : Facts := ⟨by decide, by decide, by decide⟩

/-- A number that compares greater than minus infinity is not minus infinity. -/
theorem ne_bot_of_gt (x : EReal) (h : Ideal.cmp .ogt x (Ideal.ofBits .f32 0xFF800000#32) = 1#1) : x ≠ ⊥ := by
  have hbot : Ideal.ofBits .f32 0xFF800000#32 = ⊥ := by simp [Ideal.ofBits, Ideal.ieee]
  rw [hbot] at h
  rintro rfl
  simp [Ideal.cmp] at h

/-- The remainder of a small number by 128, as the precondition spells it. -/
def spelled (a : BitVec 32) : BitVec 32 :=
  let r := IntOp.remsi .host a 128#32
  Scalar.select (IntOp.andi (IntOp.cmpi .ne (IntOp.cmpi .slt r 0#32) (IntOp.cmpi .slt 128#32 0#32)) (IntOp.cmpi .ne r 0#32))
    (IntOp.addi r 128#32) r

/-- It is the remainder. -/
theorem spelled_eq (k : ℕ) (hk : k < 2048) : spelled (BitVec.ofNat 32 k) = BitVec.ofNat 32 (k % 128) := by
  have h : IntOp.remsi .host (BitVec.ofNat 32 k) 128#32 = BitVec.ofNat 32 (k % 128) := by
    have hm : (BitVec.ofNat 32 k).msb = false := by rw [BitVec.msb_eq_false_iff_two_mul_lt, BitVec.toNat_ofNat]; omega
    have hc : ¬ IntOp.SDivCorner (BitVec.ofNat 32 k) 128#32 := by
      simp [IntOp.SDivCorner]
    rw [IntOp.remsi, if_neg hc, BitVec.srem_eq, hm, show (128#32 : BitVec 32).msb = false by decide]
    refine BitVec.eq_of_toNat_eq ?_
    show (BitVec.ofNat 32 k % 128#32).toNat = _
    rw [BitVec.toNat_umod, BitVec.toNat_ofNat, BitVec.toNat_ofNat, BitVec.toNat_ofNat,
      Nat.mod_eq_of_lt (show k < 2 ^ 32 by omega), Nat.mod_eq_of_lt (show 128 < 2 ^ 32 by omega),
      Nat.mod_eq_of_lt (show k % 128 < 2 ^ 32 by omega)]
  show Scalar.select (IntOp.andi (IntOp.cmpi .ne (IntOp.cmpi .slt (IntOp.remsi .host (BitVec.ofNat 32 k) 128#32) 0#32) 0#1) _) _ _ = _
  rw [h]
  have hs : IntOp.cmpi .slt (BitVec.ofNat 32 (k % 128)) 0#32 = 0#1 := by
    show BitVec.ofBool ((BitVec.ofNat 32 (k % 128)).slt (BitVec.ofNat 32 0)) = 0#1
    rw [ReferenceIdeal.Read.slt_small _ _ (by omega) (by omega)]
    rfl
  rw [hs, show IntOp.cmpi .ne (0#1) 0#1 = 0#1 by decide]
  show Scalar.select (0#1 &&& _) _ _ = _
  rw [BitVec.zero_and]
  rfl

attribute [local instance] facts

/-- What the precondition says of the arguments. -/
theorem drawn (x0 : FVec Ideal S2048x34 .f32) (x1 : IVec S2048 32) (x2 : FVec Ideal S_ .f32) (h : fn (F := Ideal) x0 x1 x2 = fun _ => 1#1) :
    ReferenceIdeal.Read.Round x1 ∧ ∀ i, x2 i ≠ ⊥ := by
  have h' := congrFun h (fun a => a.elim0)
  obtain ⟨h0, h1⟩ := IntOp.andi_eq_one.1 h'
  have : Subsingleton S_.Idx := ⟨fun a b => funext fun i => i.elim0⟩
  refine ⟨fun k => ?_, fun i => ne_bot_of_gt _ ?_⟩
  · have e := Host.reduce_andi_all _ _ _ _ _ h0 (Shape.Idx.ofFin k)
    have e' : IntOp.cmpi .eq (x1 (Shape.Idx.ofFin k)) (spelled (BitVec.ofNat 32 k.val)) = 1#1 := e
    rw [spelled_eq k.val k.isLt] at e'
    have e2 : BitVec.ofBool (x1 (Shape.Idx.ofFin k) == BitVec.ofNat 32 (k.val % 128)) = 1#1 := e'
    by_contra hne
    rw [beq_eq_false_iff_ne.2 hne] at e2
    exact absurd e2 (by decide)
  · rw [Subsingleton.elim i (fun a => a.elim0)]
    exact h1

end Cert.Pre_drawn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KerArray
public import proofs.«01_k».proof.Proof.Layout
public import proofs.«01_k».proof.Proof.Drawn
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs to its end, its arguments unchanged and no semaphore used. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two named constants are the numbers the table gives them. -/
theorem preserves : Cert.preserves_Kernel_KernelIdeal :=
  ⟨IdealRules.named_const.statement Cert.KernelIdeal.κ "scale" .f32 0x40000000#32 ((33554431 / 16777216 : ℝ) : EReal) rfl,
    IdealRules.named_const.statement Cert.KernelIdeal.κ "off" .f32 0xC0400000#32 ((-25165823 / 8388608 : ℝ) : EReal) rfl⟩

/-- On labels that count the classes round and round, and a variance above zero, the kernel and the reference both end with the table
of log-likelihoods. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.facts) := by
  intro m g m' g' hpre hargs
  refine ⟨fun c => fun i : Cert.KernelIdeal.S2048x512.Idx => Target.table
      (m ((c.tc : Thread Cert.KernelIdeal.nD Cert.KernelIdeal.τ).loc Cert.KernelIdeal.main_arg2) (fun a => a.elim0))
      (fun r f => m ((c.tc : Thread Cert.KernelIdeal.nD Cert.KernelIdeal.τ).loc Cert.KernelIdeal.main_arg0) (ix2 r f)) (i 0) (i 1), ?_, ?_⟩
  · refine (θ_run Cert.KernelIdeal.defs _ _).mono (fun r h c => ⟨(h c).1.trans ?_, (h c).2⟩) (Cert.KernelIdeal.Value.run_blocks m g)
    exact Cert.KernelIdeal.Gen.array_table ((Cert.Pre_drawn.drawn _ _ _ (hpre c)).2 _)
      (fun i => congrArg _ (Subsingleton.elim (α := Cert.KernelIdeal.S_.Idx) i _)) (fun _ _ => rfl)
  · refine (θ_run Cert.ReferenceIdeal.defs _ _).mono (fun r h c => ⟨(h c).1.trans ?_, (h c).2⟩) (Cert.ReferenceIdeal.Value.run (F := Ideal) m' g')
    obtain ⟨a0, a1, a2⟩ := hargs c
    refine (Cert.ReferenceIdeal.Read.val_main_v597_eq (F := Ideal) (StableHlo.launchContents m' c)).trans ?_
    exact Cert.ReferenceIdeal.Read.reference_table (fun k => (congrFun a1 _).trans ((Cert.Pre_drawn.drawn _ _ _ (hpre c)).1 k))
      (fun i => (congrFun a2 i).trans (congrArg _ (Subsingleton.elim (α := Cert.KernelIdeal.S_.Idx) i _))) (fun _ _ => congrFun a0 _)

/-- The whole claim. -/
theorem claim : Cert.Claim := ⟨Cert.Kernel.Gen.facts, Cert.KernelIdeal.Gen.facts, Cert.ReferenceIdeal.Gen.facts, Cert.Pre_drawn.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, preserves, algebraic⟩

end Cert.Proof

end
